-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v38_0) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x4096 : Shape := ⟨3, ![256, 1, 4096]⟩
abbrev S4096 : Shape := ⟨1, ![4096]⟩
abbrev S4096x6144 : Shape := ⟨2, ![4096, 6144]⟩
abbrev S6144 : Shape := ⟨1, ![6144]⟩
abbrev S256x1 : Shape := ⟨2, ![256, 1]⟩
abbrev S64 : Shape := ⟨1, ![64]⟩
abbrev S64x128 : Shape := ⟨2, ![64, 128]⟩
abbrev S256x4096 : Shape := ⟨2, ![256, 4096]⟩
abbrev S1x4096 : Shape := ⟨2, ![1, 4096]⟩
abbrev S1x6144 : Shape := ⟨2, ![1, 6144]⟩
abbrev S1x256 : Shape := ⟨2, ![1, 256]⟩
abbrev S256x32x128 : Shape := ⟨3, ![256, 32, 128]⟩
abbrev S256x8x128 : Shape := ⟨3, ![256, 8, 128]⟩
abbrev S4096x1024 : Shape := ⟨2, ![4096, 1024]⟩
abbrev S1x1024 : Shape := ⟨2, ![1, 1024]⟩
abbrev S256x128 : Shape := ⟨2, ![256, 128]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S128x256 : Shape := ⟨2, ![128, 256]⟩
abbrev S1x128 : Shape := ⟨2, ![1, 128]⟩
abbrev S128x128 : Shape := ⟨2, ![128, 128]⟩
abbrev S4096x256 : Shape := ⟨2, ![4096, 256]⟩
abbrev S256x256 : Shape := ⟨2, ![256, 256]⟩
abbrev S256x4x128 : Shape := ⟨3, ![256, 4, 128]⟩
abbrev S1024x128 : Shape := ⟨2, ![1024, 128]⟩
abbrev S256x2x128 : Shape := ⟨3, ![256, 2, 128]⟩
abbrev S256x1x128 : Shape := ⟨3, ![256, 1, 128]⟩

abbrev nBuf : Space → Nat
  | .hbm => 16
  | .vmem => 17
  | .smem => 0
  | _ => 0

abbrev bufTy : (tb : Table) → Fin (tcTables nBuf tb) → BufTy
  | .hbm, ⟨0, _⟩ => ⟨S256x1x4096, .bf16⟩
  | .hbm, ⟨1, _⟩ => ⟨S4096, .f32⟩
  | .hbm, ⟨2, _⟩ => ⟨S4096x6144, .fp8e4m3⟩
  | .hbm, ⟨3, _⟩ => ⟨S6144, .f32⟩
  | .hbm, ⟨4, _⟩ => ⟨S256x1, .i32⟩
  | .hbm, ⟨5, _⟩ => ⟨S64, .f32⟩
  | .hbm, ⟨6, _⟩ => ⟨S64x128, .f32⟩
  | .hbm, ⟨7, _⟩ => ⟨S256x4096, .bf16⟩
  | .hbm, ⟨8, _⟩ => ⟨S1x4096, .f32⟩
  | .hbm, ⟨9, _⟩ => ⟨S1x6144, .f32⟩
  | .hbm, ⟨10, _⟩ => ⟨S1x256, .i32⟩
  | .hbm, ⟨11, _⟩ => ⟨S256x32x128, .bf16⟩
  | .hbm, ⟨12, _⟩ => ⟨S256x8x128, .bf16⟩
  | .hbm, ⟨13, _⟩ => ⟨S256x8x128, .bf16⟩
  | .hbm, ⟨14, _⟩ => ⟨S256x4096, .fp8e4m3⟩
  | .hbm, ⟨15, _⟩ => ⟨S1x256, .f32⟩
  | .local _ .vmem, ⟨0, _⟩ => ⟨S256x4096, .bf16⟩
  | .local _ .vmem, ⟨1, _⟩ => ⟨S1x4096, .f32⟩
  | .local _ .vmem, ⟨2, _⟩ => ⟨S4096x1024, .fp8e4m3⟩
  | .local _ .vmem, ⟨3, _⟩ => ⟨S4096x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x256, .i32⟩
  | .local _ .vmem, ⟨7, _⟩ => ⟨S64x128, .f32⟩
  | .local _ .vmem, ⟨8, _⟩ => ⟨S256x8x128, .bf16⟩
  | .local _ .vmem, ⟨9, _⟩ => ⟨S256x8x128, .bf16⟩
  | .local _ .vmem, ⟨10, _⟩ => ⟨S256x8x128, .bf16⟩
  | .local _ .vmem, ⟨11, _⟩ => ⟨S256x8x128, .bf16⟩
  | .local _ .vmem, ⟨12, _⟩ => ⟨S256x4096, .fp8e4m3⟩
  | .local _ .vmem, ⟨13, _⟩ => ⟨S1x256, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [BitOps F]

abbrev grid0 : Pipeline.Grid := ⟨1, ![6], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .eq arg0 c4_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c5_i32 : BitVec 32 := 5#32
  let v9 : BitVec 1 := Scalar.cmpi .eq arg0 c5_i32
  let v10 : BitVec 32 := Scalar.extui v9
  let c0_i32_4 : BitVec 32 := 0#32
  let v11 : BitVec 1 := Scalar.cmpi .ne v10 c0_i32_4
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F]
-- ==== ReferenceIdeal.lean ====
abbrev S256x1x4096 : Shape := ⟨3, ![256, 1, 4096]⟩
abbrev S4096 : Shape := ⟨1, ![4096]⟩
abbrev S4096x6144 : Shape := ⟨2, ![4096, 6144]⟩
abbrev S6144 : Shape := ⟨1, ![6144]⟩
abbrev S256x1 : Shape := ⟨2, ![256, 1]⟩
abbrev S254 : Shape := ⟨1, ![254]⟩
abbrev S64 : Shape := ⟨1, ![64]⟩
abbrev S256x4096 : Shape := ⟨2, ![256, 4096]⟩
abbrev S_ : Shape := ⟨0, ![]⟩
abbrev S256 : Shape := ⟨1, ![256]⟩
abbrev S1x4096 : Shape := ⟨2, ![1, 4096]⟩
abbrev S1x254 : Shape := ⟨2, ![1, 254]⟩
abbrev S256x254 : Shape := ⟨2, ![256, 254]⟩
abbrev S256x6144 : Shape := ⟨2, ![256, 6144]⟩
abbrev S1x6144 : Shape := ⟨2, ![1, 6144]⟩
abbrev S256x32x128 : Shape := ⟨3, ![256, 32, 128]⟩
abbrev S256x1024 : Shape := ⟨2, ![256, 1024]⟩
abbrev S256x8x128 : Shape := ⟨3, ![256, 8, 128]⟩
abbrev S1x64 : Shape := ⟨2, ![1, 64]⟩
abbrev S256x64 : Shape := ⟨2, ![256, 64]⟩
abbrev S256x1x64 : Shape := ⟨3, ![256, 1, 64]⟩
abbrev S256x32x64 : Shape := ⟨3, ![256, 32, 64]⟩
abbrev S256x8x64 : Shape := ⟨3, ![256, 8, 64]⟩
abbrev S1x256 : Shape := ⟨2, ![1, 256]⟩

abbrev nBuf : Space → Nat
  | .hbm => 114
  | .vmem => 5
  | .smem => 0
  | _ => 0

abbrev bufTy : (tb : Table) → Fin (tcTables nBuf tb) → BufTy
  | .hbm, ⟨0, _⟩ => ⟨S256x1x4096, .bf16⟩
  | .hbm, ⟨1, _⟩ => ⟨S4096, .f32⟩
  | .hbm, ⟨2, _⟩ => ⟨S4096x6144, .fp8e4m3⟩
  | .hbm, ⟨3, _⟩ => ⟨S6144, .f32⟩
  | .hbm, ⟨4, _⟩ => ⟨S256x1, .i32⟩
  | .hbm, ⟨5, _⟩ => ⟨S254, .f32⟩
  | .hbm, ⟨6, _⟩ => ⟨S64, .f32⟩
  | .hbm, ⟨7, _⟩ => ⟨S256x4096, .bf16⟩
  | .hbm, ⟨8, _⟩ => ⟨S256x4096, .f32⟩
  | .hbm, ⟨9, _⟩ => ⟨S256x4096, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x4096, .f32⟩
  | .hbm, ⟨21, _⟩ => ⟨S256x4096, .f32⟩
  | .hbm, ⟨22, _⟩ => ⟨S1x4096, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S1x254, .f32⟩
  | .hbm, ⟨33, _⟩ => ⟨S256x254, .f32⟩
  | .hbm, ⟨34, _⟩ => ⟨S256x254, .f32⟩
  | .hbm, ⟨35, _⟩ => ⟨S256x254, .i1⟩
  | .hbm, ⟨36, _⟩ => ⟨S_, .f32⟩
  | .hbm, ⟨37, _⟩ => ⟨S256x254, .f32⟩
  | .hbm, ⟨38, _⟩ => ⟨S256x254, .f32⟩
  | .hbm, ⟨39, _⟩ => ⟨S256x254, .f32⟩
  | .hbm, ⟨40, _⟩ => ⟨S_, .f32⟩
  | .hbm, ⟨41, _⟩ => ⟨S256, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .i1⟩
  | .hbm, ⟨46, _⟩ => ⟨S_, .f32⟩
  | .hbm, ⟨47, _⟩ => ⟨S256x1, .f32⟩
  | .hbm, ⟨48, _⟩ => ⟨S256x1, .i1⟩
  | .hbm, ⟨49, _⟩ => ⟨S256x1, .i1⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .i1⟩
  | .hbm, ⟨56, _⟩ => ⟨S_, .f32⟩
  | .hbm, ⟨57, _⟩ => ⟨S256x1, .f32⟩
  | .hbm, ⟨58, _⟩ => ⟨S256x1, .f32⟩
  | .hbm, ⟨59, _⟩ => ⟨S_, .f32⟩
  | .hbm, ⟨60, _⟩ => ⟨S256x1, .f32⟩
  | .hbm, ⟨61, _⟩ => ⟨S256x1, .f32⟩
  | .hbm, ⟨62, _⟩ => ⟨S256x4096, .fp8e4m3⟩
  | .hbm, ⟨63, _⟩ => ⟨S256x6144, .f32⟩
  | .hbm, ⟨64, _⟩ => ⟨S256x6144, .f32⟩
  | .hbm, ⟨65, _⟩ => ⟨S256x6144, .f32⟩
  | .hbm, ⟨66, _⟩ => ⟨S1x6144, .f32⟩
  | .hbm, ⟨67, _⟩ => ⟨S256x6144, .f32⟩
  | .hbm, ⟨68, _⟩ => ⟨S256x6144, .f32⟩
  | .hbm, ⟨69, _⟩ => ⟨S256x4096, .f32⟩
  | .hbm, ⟨70, _⟩ => ⟨S256x32x128, .f32⟩
  | .hbm, ⟨71, _⟩ => ⟨S256x1024, .f32⟩
  | .hbm, ⟨72, _⟩ => ⟨S256x8x128, .f32⟩
  | .hbm, ⟨73, _⟩ => ⟨S256x1024, .f32⟩
  | .hbm, ⟨74, _⟩ => ⟨S256x8x128, .f32⟩
  | .hbm, ⟨75, _⟩ => ⟨S256x1, .f32⟩
  | .hbm, ⟨76, _⟩ => ⟨S1x64, .f32⟩
  | .hbm, ⟨77, _⟩ => ⟨S256x64, .f32⟩
  | .hbm, ⟨78, _⟩ => ⟨S256x64, .f32⟩
  | .hbm, ⟨79, _⟩ => ⟨S256x64, .f32⟩
  | .hbm, ⟨80, _⟩ => ⟨S256x64, .f32⟩
  | .hbm, ⟨81, _⟩ => ⟨S256x1x64, .f32⟩
  | .hbm, ⟨82, _⟩ => ⟨S256x64, .f32⟩
  | .hbm, ⟨83, _⟩ => ⟨S256x1x64, .f32⟩
  | .hbm, ⟨84, _⟩ => ⟨S256x32x64, .f32⟩
  | .hbm, ⟨85, _⟩ => ⟨S256x32x64, .f32⟩
  | .hbm, ⟨86, _⟩ => ⟨S256x32x64, .f32⟩
  | .hbm, ⟨87, _⟩ => ⟨S256x32x64, .f32⟩
  | .hbm, ⟨88, _⟩ => ⟨S256x32x64, .f32⟩
  | .hbm, ⟨89, _⟩ => ⟨S256x32x64, .f32⟩
  | .hbm, ⟨90, _⟩ => ⟨S256x32x64, .f32⟩
  | .hbm, ⟨91, _⟩ => ⟨S256x32x64, .f32⟩
  | .hbm, ⟨92, _⟩ => ⟨S256x32x64, .f32⟩
  | .hbm, ⟨93, _⟩ => ⟨S256x32x64, .f32⟩
  | .hbm, ⟨94, _⟩ => ⟨S256x32x64, .f32⟩
  | .hbm, ⟨95, _⟩ => ⟨S256x32x64, .f32⟩
  | .hbm, ⟨96, _⟩ => ⟨S256x32x128, .f32⟩
  | .hbm, ⟨97, _⟩ => ⟨S256x32x128, .bf16⟩
  | .hbm, ⟨98, _⟩ => ⟨S256x8x64, .f32⟩
  | .hbm, ⟨99, _⟩ => ⟨S256x8x64, .f32⟩
  | .hbm, ⟨100, _⟩ => ⟨S256x8x64, .f32⟩
  | .hbm, ⟨101, _⟩ => ⟨S256x8x64, .f32⟩
  | .hbm, ⟨102, _⟩ => ⟨S256x8x64, .f32⟩
  | .hbm, ⟨103, _⟩ => ⟨S256x8x64, .f32⟩
  | .hbm, ⟨104, _⟩ => ⟨S256x8x64, .f32⟩
  | .hbm, ⟨105, _⟩ => ⟨S256x8x64, .f32⟩
  | .hbm, ⟨106, _⟩ => ⟨S256x8x64, .f32⟩
  | .hbm, ⟨107, _⟩ => ⟨S256x8x64, .f32⟩
  | .hbm, ⟨108, _⟩ => ⟨S256x8x64, .f32⟩
  | .hbm, ⟨109, _⟩ => ⟨S256x8x64, .f32⟩
  | .hbm, ⟨110, _⟩ => ⟨S256x8x128, .f32⟩
  | .hbm, ⟨111, _⟩ => ⟨S256x8x128, .bf16⟩
  | .hbm, ⟨112, _⟩ => ⟨S256x8x128, .bf16⟩
  | .hbm, ⟨113, _⟩ => ⟨S1x256, .f32⟩
  | .local _ .vmem, ⟨0, _⟩ => ⟨S256x4096, .f32⟩
  | .local _ .vmem, ⟨1, _⟩ => ⟨S256x1, .f32⟩
  | .local _ .vmem, ⟨2, _⟩ => ⟨S4096x6144, .fp8e4m3⟩
  | .local _ .vmem, ⟨3, _⟩ => ⟨S256x4096, .fp8e4m3⟩
  | .local _ .vmem, ⟨4, _⟩ => ⟨S256x6144, .f32⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_call1_v0 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_call2_v0 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelFrame.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at point 4 only — by arithmetic of the point. -/
theorem hcond0_2 : ∀ t : Fin cfg0.N, cond0_2 (grid0.coords t) ↔ t.val % 6 = 4 :=
  (fun t => by
    have ht : t.val < 6 := Nat.lt_of_lt_of_eq t.isLt N_0
    have e0 : (grid0.coords t 0).val = t.val / 1 % 6 := Pipeline.Grid.coords_val t 0 (by decide) rfl
    simp only [cond0_2, k0_cond3, e0]
    word_cmp
   : ∀ t : Fin grid0.N, cond0_2 (grid0.coords t) ↔ t.val % 6 = 4)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_3, k0_cond4, e0]
    word_cmp
   : ∀ t : Fin grid0.N, cond0_3 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x8x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KernelFrame.RunA.lean ====
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 not taken, `scf.if` 3 not taken: points 0): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : cond0_0 i) (hc1 : cond0_1 i) (hc2 : ¬cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_rmsnorm_fp8_qkv_rope_eq_skeleton]; unfold cc0_rmsnorm_fp8_qkv_rope_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.RunB.lean ====
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 not taken, `scf.if` 3 not taken: points 1, 2, 3): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : ¬cond0_0 i) (hc1 : cond0_1 i) (hc2 : ¬cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_rmsnorm_fp8_qkv_rope_eq_skeleton]; unfold cc0_rmsnorm_fp8_qkv_rope_skel
    simp only [k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.RunC.lean ====
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 taken, `scf.if` 3 not taken: points 4): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : ¬cond0_0 i) (hc1 : ¬cond0_1 i) (hc2 : cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_rmsnorm_fp8_qkv_rope_eq_skeleton]; unfold cc0_rmsnorm_fp8_qkv_rope_skel
    simp only [k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.RunD.lean ====
module

public import proofs.«01_k».proof.Proof.KernelFrame.RunC

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken, `scf.if` 2 not taken, `scf.if` 3 taken: points 5): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : ¬cond0_0 i) (hc1 : ¬cond0_1 i) (hc2 : ¬cond0_2 i) (hc3 : cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_rmsnorm_fp8_qkv_rope_eq_skeleton]; unfold cc0_rmsnorm_fp8_qkv_rope_skel
    rw [k0_part33_eq_skeleton]; unfold k0_part33_skel; rw [k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.Frame.lean ====
module

public import proofs.«01_k».proof.Proof.KernelFrame.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 6 := lt_of_lt_of_eq t.isLt (show cfg0.N = 6 from N_0)
  by_cases h0 : t.val % 6 = 0
  · by_cases h1 : t.val < 4
    · by_cases h2 : t.val % 6 = 4
      · exfalso; omega
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          iintro ⟨H0, H1, H2, H3, H4, H5, H6, H7, H8, H9, H10, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · exfalso; omega
  · by_cases h1 : t.val < 4
    · by_cases h2 : t.val % 6 = 4
      · exfalso; omega
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          iintro ⟨H0, H1, H2, H3, H4, H5, H6, H7, H8, H9, H10, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · by_cases h2 : t.val % 6 = 4
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          iintro ⟨H0, H1, H2, H3, H4, H5, H6, H7, H8, H9, H10, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · by_cases h3 : t.val % 6 = 5
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_D c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          iintro ⟨H0, H1, H2, H3, H4, H5, H6, H7, H8, H9, H10, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.KernelValue.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at point 4 only — by arithmetic of the point. -/
theorem hcond0_2 : ∀ t : Fin cfg0.N, cond0_2 (grid0.coords t) ↔ t.val % 6 = 4 :=
  (fun t => by
    have ht : t.val < 6 := Nat.lt_of_lt_of_eq t.isLt N_0
    have e0 : (grid0.coords t 0).val = t.val / 1 % 6 := Pipeline.Grid.coords_val t 0 (by decide) rfl
    simp only [cond0_2, k0_cond3, e0]
    word_cmp
   : ∀ t : Fin grid0.N, cond0_2 (grid0.coords t) ↔ t.val % 6 = 4)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_3, k0_cond4, e0]
    word_cmp
   : ∀ t : Fin grid0.N, cond0_3 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x27 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → ¬cond0_3 (grid0.coords t) → cfg0.idle 6 (grid0.coords t) = false :=
  fun t h0 h1 h2 h3 => (by decide +kernel : ∀ t : Fin cfg0.N, conds0_A (grid0.coords t) → cfg0.idle 6 (grid0.coords t) = false) t ⟨h0, h1, h2, h3⟩
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → ¬cond0_3 (grid0.coords t) → cfg0.idle 6 (grid0.coords t) = false :=
  fun t h0 h1 h2 h3 => (by decide +kernel : ∀ t : Fin cfg0.N, conds0_B (grid0.coords t) → cfg0.idle 6 (grid0.coords t) = false) t ⟨h0, h1, h2, h3⟩
/-- At the points of case C the printed configuration (`Cfg.idle`) calls output 6 idle: the case stores nothing into it. -/
theorem idleAt0_6_C : ∀ t : Fin cfg0.N, ¬cond0_0 (grid0.coords t) → ¬cond0_1 (grid0.coords t) → cond0_2 (grid0.coords t) → ¬cond0_3 (grid0.coords t) → cfg0.idle 6 (grid0.coords t) = true :=
  fun t h0 h1 h2 h3 => (by decide +kernel : ∀ t : Fin cfg0.N, conds0_C (grid0.coords t) → cfg0.idle 6 (grid0.coords t) = true) t ⟨h0, h1, h2, h3⟩
/-- At the points of case C the pipeline does not write output 6's block back. -/
theorem noFlush0_6_C : ∀ t : Fin cfg0.N, ¬cond0_0 (grid0.coords t) → ¬cond0_1 (grid0.coords t) → cond0_2 (grid0.coords t) → ¬cond0_3 (grid0.coords t) → (cfg0.win 6).flush t = false :=
  fun t h0 h1 h2 h3 => (by decide +kernel : ∀ t : Fin cfg0.N, conds0_C (grid0.coords t) → (cfg0.win 6).flush t = false) t ⟨h0, h1, h2, h3⟩
/-- At the points of case D output 6 is idle: the case stores nothing into it. -/
theorem idleAt0_6_D : ∀ t : Fin cfg0.N, ¬cond0_0 (grid0.coords t) → ¬cond0_1 (grid0.coords t) → ¬cond0_2 (grid0.coords t) → cond0_3 (grid0.coords t) → cfg0.idle 6 (grid0.coords t) = true :=
  fun t h0 h1 h2 h3 => (by decide +kernel : ∀ t : Fin cfg0.N, conds0_D (grid0.coords t) → cfg0.idle 6 (grid0.coords t) = true) t ⟨h0, h1, h2, h3⟩
/-- Whether the pipeline writes output 6's block back at the points of case D. -/
theorem flush0_6_D : ∀ t : Fin cfg0.N, ¬cond0_0 (grid0.coords t) → ¬cond0_1 (grid0.coords t) → ¬cond0_2 (grid0.coords t) → cond0_3 (grid0.coords t) → (cfg0.win 6).flush t = true :=
  fun t h0 h1 h2 h3 => (by decide +kernel : ∀ t : Fin cfg0.N, conds0_D (grid0.coords t) → (cfg0.win 6).flush t = true) t ⟨h0, h1, h2, h3⟩
/-- At the points of case D, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_D : ∀ t : Fin cfg0.N, ¬cond0_0 (grid0.coords t) → ¬cond0_1 (grid0.coords t) → ¬cond0_2 (grid0.coords t) → cond0_3 (grid0.coords t) → cfg0.fresh 6 t.val = false :=
  fun t h0 h1 h2 h3 => (by intro t; rw [fresh0_6_eq t]; revert t; decide +kernel : ∀ t : Fin cfg0.N, conds0_D (grid0.coords t) → cfg0.fresh 6 t.val = false) t ⟨h0, h1, h2, h3⟩
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x2f : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 idle: the case stores nothing into it. -/
theorem idleAt0_7_A : ∀ t : Fin cfg0.N, cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_A (grid0.coords t) → cfg0.idle 7 (grid0.coords t) = true) t ⟨h0, h1, h2, h3⟩
/-- At the points of case A the pipeline does not write output 7's block back. -/
theorem noFlush0_7_A : ∀ t : Fin cfg0.N, cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_A (grid0.coords t) → (cfg0.win 7).flush t = false) t ⟨h0, h1, h2, h3⟩
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → ¬cond0_3 (grid0.coords t) → cfg0.idle 7 (grid0.coords t) = true :=
  fun t h0 h1 h2 h3 => (by decide +kernel : ∀ t : Fin cfg0.N, conds0_B (grid0.coords t) → cfg0.idle 7 (grid0.coords t) = true) t ⟨h0, h1, h2, h3⟩
/-- At the points of case B the pipeline does not write output 7's block back. -/
theorem noFlush0_7_B : ∀ t : Fin cfg0.N, ¬cond0_0 (grid0.coords t) → cond0_1 (grid0.coords t) → ¬cond0_2 (grid0.coords t) → ¬cond0_3 (grid0.coords t) → (cfg0.win 7).flush t = false :=
  fun t h0 h1 h2 h3 => (by decide +kernel : ∀ t : Fin cfg0.N, conds0_B (grid0.coords t) → (cfg0.win 7).flush t = false) t ⟨h0, h1, h2, h3⟩
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → ¬cond0_3 (grid0.coords t) → cfg0.idle 7 (grid0.coords t) = false :=
  fun t h0 h1 h2 h3 => (by decide +kernel : ∀ t : Fin cfg0.N, conds0_C (grid0.coords t) → cfg0.idle 7 (grid0.coords t) = false) t ⟨h0, h1, h2, h3⟩
/-- At the points of case D output 7 is idle: the case stores nothing into it. -/
theorem idleAt0_7_D : ∀ t : Fin cfg0.N, ¬cond0_0 (grid0.coords t) → ¬cond0_1 (grid0.coords t) → ¬cond0_2 (grid0.coords t) → cond0_3 (grid0.coords t) → cfg0.idle 7 (grid0.coords t) = true :=
  fun t h0 h1 h2 h3 => (by decide +kernel : ∀ t : Fin cfg0.N, conds0_D (grid0.coords t) → cfg0.idle 7 (grid0.coords t) = true) t ⟨h0, h1, h2, h3⟩
/-- Whether the pipeline writes output 7's block back at the points of case D. -/
theorem flush0_7_D : ∀ t : Fin cfg0.N, ¬cond0_0 (grid0.coords t) → ¬cond0_1 (grid0.coords t) → ¬cond0_2 (grid0.coords t) → cond0_3 (grid0.coords t) → (cfg0.win 7).flush t = true :=
  fun t h0 h1 h2 h3 => (by decide +kernel : ∀ t : Fin cfg0.N, conds0_D (grid0.coords t) → (cfg0.win 7).flush t = true) t ⟨h0, h1, h2, h3⟩
/-- At the points of case D, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_D : ∀ t : Fin cfg0.N, ¬cond0_0 (grid0.coords t) → ¬cond0_1 (grid0.coords t) → ¬cond0_2 (grid0.coords t) → cond0_3 (grid0.coords t) → cfg0.fresh 7 t.val = false :=
  fun t h0 h1 h2 h3 => (by intro t; rw [fresh0_7_eq t]; revert t; decide +kernel : ∀ t : Fin cfg0.N, conds0_D (grid0.coords t) → cfg0.fresh 7 t.val = false) t ⟨h0, h1, h2, h3⟩
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → ¬cond0_3 (grid0.coords t) → cfg0.idle 8 (grid0.coords t) = true :=
  fun t h0 h1 h2 h3 => (by decide +kernel : ∀ t : Fin cfg0.N, conds0_A (grid0.coords t) → cfg0.idle 8 (grid0.coords t) = true) t ⟨h0, h1, h2, h3⟩
/-- At the points of case A the pipeline does not write output 8's block back. -/
theorem noFlush0_8_A : ∀ t : Fin cfg0.N, cond0_0 (grid0.coords t) → cond0_1 (grid0.coords t) → ¬cond0_2 (grid0.coords t) → ¬cond0_3 (grid0.coords t) → (cfg0.win 8).flush t = false :=
  fun t h0 h1 h2 h3 => (by decide +kernel : ∀ t : Fin cfg0.N, conds0_A (grid0.coords t) → (cfg0.win 8).flush t = false) t ⟨h0, h1, h2, h3⟩
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → ¬cond0_3 (grid0.coords t) → cfg0.idle 8 (grid0.coords t) = true :=
  fun t h0 h1 h2 h3 => (by decide +kernel : ∀ t : Fin cfg0.N, conds0_B (grid0.coords t) → cfg0.idle 8 (grid0.coords t) = true) t ⟨h0, h1, h2, h3⟩
/-- At the points of case B the pipeline does not write output 8's block back. -/
theorem noFlush0_8_B : ∀ t : Fin cfg0.N, ¬cond0_0 (grid0.coords t) → cond0_1 (grid0.coords t) → ¬cond0_2 (grid0.coords t) → ¬cond0_3 (grid0.coords t) → (cfg0.win 8).flush t = false :=
  fun t h0 h1 h2 h3 => (by decide +kernel : ∀ t : Fin cfg0.N, conds0_B (grid0.coords t) → (cfg0.win 8).flush t = false) t ⟨h0, h1, h2, h3⟩
/-- At the points of case C the printed configuration (`Cfg.idle`) calls output 8 idle: the case stores nothing into it. -/
theorem idleAt0_8_C : ∀ t : Fin cfg0.N, ¬cond0_0 (grid0.coords t) → ¬cond0_1 (grid0.coords t) → cond0_2 (grid0.coords t) → ¬cond0_3 (grid0.coords t) → cfg0.idle 8 (grid0.coords t) = true :=
  fun t h0 h1 h2 h3 => (by decide +kernel : ∀ t : Fin cfg0.N, conds0_C (grid0.coords t) → cfg0.idle 8 (grid0.coords t) = true) t ⟨h0, h1, h2, h3⟩
/-- At the points of case C the pipeline does not write output 8's block back. -/
theorem noFlush0_8_C : ∀ t : Fin cfg0.N, ¬cond0_0 (grid0.coords t) → ¬cond0_1 (grid0.coords t) → cond0_2 (grid0.coords t) → ¬cond0_3 (grid0.coords t) → (cfg0.win 8).flush t = false :=
  fun t h0 h1 h2 h3 => (by decide +kernel : ∀ t : Fin cfg0.N, conds0_C (grid0.coords t) → (cfg0.win 8).flush t = false) t ⟨h0, h1, h2, h3⟩
/-- At the points of case D the printed configuration (`Cfg.idle`) calls output 8 live: the case stores into it. -/
theorem liveAt0_8_D : ∀ t : Fin cfg0.N, ¬cond0_0 (grid0.coords t) → ¬cond0_1 (grid0.coords t) → ¬cond0_2 (grid0.coords t) → cond0_3 (grid0.coords t) → cfg0.idle 8 (grid0.coords t) = false :=
  fun t h0 h1 h2 h3 => (by decide +kernel : ∀ t : Fin cfg0.N, conds0_D (grid0.coords t) → cfg0.idle 8 (grid0.coords t) = false) t ⟨h0, h1, h2, h3⟩
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x20 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cond0_1 (grid0.coords t) → ¬cond0_2 (grid0.coords t) → ¬cond0_3 (grid0.coords t) → cfg0.idle 9 (grid0.coords t) = false :=
  fun t h0 h1 h2 h3 => (by decide +kernel : ∀ t : Fin cfg0.N, conds0_A (grid0.coords t) → cfg0.idle 9 (grid0.coords t) = false) t ⟨h0, h1, h2, h3⟩
/-- At the points of case B output 9 is idle: the case stores nothing into it. -/
theorem idleAt0_9_B : ∀ t : Fin cfg0.N, ¬cond0_0 (grid0.coords t) → cond0_1 (grid0.coords t) → ¬cond0_2 (grid0.coords t) → ¬cond0_3 (grid0.coords t) → cfg0.idle 9 (grid0.coords t) = true :=
  fun t h0 h1 h2 h3 => (by decide +kernel : ∀ t : Fin cfg0.N, conds0_B (grid0.coords t) → cfg0.idle 9 (grid0.coords t) = true) t ⟨h0, h1, h2, h3⟩
/-- Whether the pipeline writes output 9's block back at the points of case B. -/
theorem noFlush0_9_B : ∀ t : Fin cfg0.N, ¬cond0_0 (grid0.coords t) → cond0_1 (grid0.coords t) → ¬cond0_2 (grid0.coords t) → ¬cond0_3 (grid0.coords t) → (cfg0.win 9).flush t = false :=
  fun t h0 h1 h2 h3 => (by decide +kernel : ∀ t : Fin cfg0.N, conds0_B (grid0.coords t) → (cfg0.win 9).flush t = false) t ⟨h0, h1, h2, h3⟩
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → ¬cond0_2 (grid0.coords t) → ¬cond0_3 (grid0.coords t) → cfg0.fresh 9 t.val = false :=
  fun t h0 h1 h2 h3 => (by intro t; rw [fresh0_9_eq t]; revert t; decide +kernel : ∀ t : Fin cfg0.N, conds0_B (grid0.coords t) → cfg0.fresh 9 t.val = false) t ⟨h0, h1, h2, h3⟩
/-- At the points of case C output 9 is idle: the case stores nothing into it. -/
theorem idleAt0_9_C : ∀ t : Fin cfg0.N, ¬cond0_0 (grid0.coords t) → ¬cond0_1 (grid0.coords t) → cond0_2 (grid0.coords t) → ¬cond0_3 (grid0.coords t) → cfg0.idle 9 (grid0.coords t) = true :=
  fun t h0 h1 h2 h3 => (by decide +kernel : ∀ t : Fin cfg0.N, conds0_C (grid0.coords t) → cfg0.idle 9 (grid0.coords t) = true) t ⟨h0, h1, h2, h3⟩
/-- Whether the pipeline writes output 9's block back at the points of case C. -/
theorem noFlush0_9_C : ∀ t : Fin cfg0.N, ¬cond0_0 (grid0.coords t) → ¬cond0_1 (grid0.coords t) → cond0_2 (grid0.coords t) → ¬cond0_3 (grid0.coords t) → (cfg0.win 9).flush t = false :=
  fun t h0 h1 h2 h3 => (by decide +kernel : ∀ t : Fin cfg0.N, conds0_C (grid0.coords t) → (cfg0.win 9).flush t = false) t ⟨h0, h1, h2, h3⟩
/-- At the points of case C, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_C : ∀ t : Fin cfg0.N, ¬cond0_0 (grid0.coords t) → ¬cond0_1 (grid0.coords t) → cond0_2 (grid0.coords t) → ¬cond0_3 (grid0.coords t) → cfg0.fresh 9 t.val = false :=
  fun t h0 h1 h2 h3 => (by intro t; rw [fresh0_9_eq t]; revert t; decide +kernel : ∀ t : Fin cfg0.N, conds0_C (grid0.coords t) → cfg0.fresh 9 t.val = false) t ⟨h0, h1, h2, h3⟩
/-- At the points of case D output 9 is idle: the case stores nothing into it. -/
theorem idleAt0_9_D : ∀ t : Fin cfg0.N, ¬cond0_0 (grid0.coords t) → ¬cond0_1 (grid0.coords t) → ¬cond0_2 (grid0.coords t) → cond0_3 (grid0.coords t) → cfg0.idle 9 (grid0.coords t) = true :=
  fun t h0 h1 h2 h3 => (by decide +kernel : ∀ t : Fin cfg0.N, conds0_D (grid0.coords t) → cfg0.idle 9 (grid0.coords t) = true) t ⟨h0, h1, h2, h3⟩
/-- Whether the pipeline writes output 9's block back at the points of case D. -/
theorem flush0_9_D : ∀ t : Fin cfg0.N, ¬cond0_0 (grid0.coords t) → ¬cond0_1 (grid0.coords t) → ¬cond0_2 (grid0.coords t) → cond0_3 (grid0.coords t) → (cfg0.win 9).flush t = true :=
  fun t h0 h1 h2 h3 => (by decide +kernel : ∀ t : Fin cfg0.N, conds0_D (grid0.coords t) → (cfg0.win 9).flush t = true) t ⟨h0, h1, h2, h3⟩
/-- At the points of case D, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_D : ∀ t : Fin cfg0.N, ¬cond0_0 (grid0.coords t) → ¬cond0_1 (grid0.coords t) → ¬cond0_2 (grid0.coords t) → cond0_3 (grid0.coords t) → cfg0.fresh 9 t.val = false :=
  fun t h0 h1 h2 h3 => (by intro t; rw [fresh0_9_eq t]; revert t; decide +kernel : ∀ t : Fin cfg0.N, conds0_D (grid0.coords t) → cfg0.fresh 9 t.val = false) t ⟨h0, h1, h2, h3⟩
/-- Whether output 10's buffer is FRESH at each position `1 ‥ N` — holds nothing the body stored since the region's entry or the
    last write-back (written back at the point before, or idle there and fresh before it) —, as a bitmask the classifier
    computed, bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x20 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → cond0_1 (grid0.coords t) → ¬cond0_2 (grid0.coords t) → ¬cond0_3 (grid0.coords t) → cfg0.idle 10 (grid0.coords t) = false :=
  fun t h0 h1 h2 h3 => (by decide +kernel : ∀ t : Fin cfg0.N, conds0_A (grid0.coords t) → cfg0.idle 10 (grid0.coords t) = false) t ⟨h0, h1, h2, h3⟩
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_B (grid0.coords t) → cfg0.idle 10 (grid0.coords t) = true) t ⟨h0, h1, h2, h3⟩
/-- At the points of case B the pipeline does not write output 10's block back. -/
theorem noFlush0_10_B : ∀ t : Fin cfg0.N, ¬cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_B (grid0.coords t) → (cfg0.win 10).flush t = false) t ⟨h0, h1, h2, h3⟩
/-- At the points of case C the printed configuration (`Cfg.idle`) calls output 10 idle: the case stores nothing into it. -/
theorem idleAt0_10_C : ∀ t : Fin cfg0.N, ¬cond0_0 (grid0.coords t) → ¬cond0_1 (grid0.coords t) → cond0_2 (grid0.coords t) → ¬cond0_3 (grid0.coords t) → cfg0.idle 10 (grid0.coords t) = true :=
  fun t h0 h1 h2 h3 => (by decide +kernel : ∀ t : Fin cfg0.N, conds0_C (grid0.coords t) → cfg0.idle 10 (grid0.coords t) = true) t ⟨h0, h1, h2, h3⟩
/-- At the points of case C the pipeline does not write output 10's block back. -/
theorem noFlush0_10_C : ∀ t : Fin cfg0.N, ¬cond0_0 (grid0.coords t) → ¬cond0_1 (grid0.coords t) → cond0_2 (grid0.coords t) → ¬cond0_3 (grid0.coords t) → (cfg0.win 10).flush t = false :=
  fun t h0 h1 h2 h3 => (by decide +kernel : ∀ t : Fin cfg0.N, conds0_C (grid0.coords t) → (cfg0.win 10).flush t = false) t ⟨h0, h1, h2, h3⟩
/-- At the points of case D output 10 is idle: the case stores nothing into it. -/
theorem idleAt0_10_D : ∀ t : Fin cfg0.N, ¬cond0_0 (grid0.coords t) → ¬cond0_1 (grid0.coords t) → ¬cond0_2 (grid0.coords t) → cond0_3 (grid0.coords t) → cfg0.idle 10 (grid0.coords t) = true :=
  fun t h0 h1 h2 h3 => (by decide +kernel : ∀ t : Fin cfg0.N, conds0_D (grid0.coords t) → cfg0.idle 10 (grid0.coords t) = true) t ⟨h0, h1, h2, h3⟩
/-- Whether the pipeline writes output 10's block back at the points of case D. -/
theorem flush0_10_D : ∀ t : Fin cfg0.N, ¬cond0_0 (grid0.coords t) → ¬cond0_1 (grid0.coords t) → ¬cond0_2 (grid0.coords t) → cond0_3 (grid0.coords t) → (cfg0.win 10).flush t = true :=
  fun t h0 h1 h2 h3 => (by decide +kernel : ∀ t : Fin cfg0.N, conds0_D (grid0.coords t) → (cfg0.win 10).flush t = true) t ⟨h0, h1, h2, h3⟩
/-- At the points of case D, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_D : ∀ t : Fin cfg0.N, ¬cond0_0 (grid0.coords t) → ¬cond0_1 (grid0.coords t) → ¬cond0_2 (grid0.coords t) → cond0_3 (grid0.coords t) → cfg0.fresh 10 t.val = false :=
  fun t h0 h1 h2 h3 => (by intro t; rw [fresh0_10_eq t]; revert t; decide +kernel : ∀ t : Fin cfg0.N, conds0_D (grid0.coords t) → cfg0.fresh 10 t.val = false) t ⟨h0, h1, h2, h3⟩

/-! ## The kernel body on any staging memrefs: a subtype the run finds -/

/-- One staging buffer of output window 6, through which its contents are stated (`View.read_writes_of_cover`: the
    choice does not matter). -/
abbrev VO0_6 : View sig .tc .vmem S256x8x128 .bf16 := (Memref.whole cc0_stg6_0 : Memref sig .tc .vmem S256x8x128 .bf16).view
/-- One staging buffer of output window 7, through which its contents are stated (`View.read_writes_of_cover`: the
    choice does not matter). -/
abbrev VO0_7 : View sig .tc .vmem S256x8x128 .bf16 := (Memref.whole cc0_stg7_0 : Memref sig .tc .vmem S256x8x128 .bf16).view
/-- One staging buffer of output window 8, through which its contents are stated (`View.read_writes_of_cover`: the
    choice does not matter). -/
abbrev VO0_8 : View sig .tc .vmem S256x8x128 .bf16 := (Memref.whole cc0_stg8_0 : Memref sig .tc .vmem S256x8x128 .bf16).view
/-- One staging buffer of output window 9, through which its contents are stated (`View.read_writes_of_cover`: the
    choice does not matter). -/
abbrev VO0_9 : View sig .tc .vmem S256x4096 .fp8e4m3 := (Memref.whole cc0_stg9_0 : Memref sig .tc .vmem S256x4096 .fp8e4m3).view
/-- One staging buffer of output window 10, through which its contents are stated (`View.read_writes_of_cover`: the
    choice does not matter). -/
abbrev VO0_10 : View sig .tc .vmem S1x256 .f32 := (Memref.whole cc0_stg10_0 : Memref sig .tc .vmem S1x256 .f32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x8x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
/-- The scratch `arg12` the kernel carries between points, as a view: what it holds is stated through it. -/
abbrev VS0_0 : View sig .tc .vmem S256x128 .f32 := scM0_0.view
/-- The scratch `arg13` the kernel carries between points, as a view: what it holds is stated through it. -/
abbrev VS0_1 : View sig .tc .vmem S256x128 .f32 := scM0_1.view
/-- The scratch `arg14` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelValue.RunA.lean ====
module

public import proofs.«01_k».proof.Proof.KernelValue.Runs

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : cond0_0 i) (hc1 : cond0_1 i) (hc2 : ¬cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) :
    Σ' (L6 : List (View.Piece (Elt F) S256x8x128 .bf16)), Σ' (L7 : List (View.Piece (Elt F) S256x8x128 .bf16)), Σ' (L8 : List (View.Piece (Elt F) S256x8x128 .bf16)), Σ' (L9 : List (View.Piece (Elt F) S256x4096 .fp8e4m3)), Σ' (L10 : List (View.Piece (Elt F) S1x256 .f32)), Σ' (LS0 : List (View.Piece (Elt F) S256x128 .f32)), Σ' (LS1 : List (View.Piece (Elt F) S256x128 .f32)), { LS2 : List (View.Piece (Elt F) S256x128 .f32) //
      ∀ (xi7 : Vec F S256x8x128 .bf16) (xi8 : Vec F S256x8x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, ?_, ?_, ?_, fun xi7 xi8 E K => ?run⟩
  case run =>
    simp only [cc0_rmsnorm_fp8_qkv_rope_eq_skeleton]; unfold cc0_rmsnorm_fp8_qkv_rope_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    isplitl [HS1]; · iexists _; iexact HS1
    iexists _; iexact HS2

end Cert.KernelIdeal.Hand

end
-- ==== Proof.KernelValue.RunB.lean ====
module

public import proofs.«01_k».proof.Proof.KernelValue.RunA

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 taken, `scf.if` 2 not taken, `scf.if` 3 not taken: points 1, 2, 3), WITH the
    proof that on whole staging memrefs — the inputs' at their contents, the outputs it reads before covering (9) at their running contents `xo·`, the outputs it leaves idle (7, 8, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : ¬cond0_0 i) (hc1 : cond0_1 i) (hc2 : ¬cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) (xo9 : Vec F S256x4096 .fp8e4m3) (xs0 : Vec F S256x128 .f32) (xs1 : Vec F S256x128 .f32) (xs2 : Vec F S256x128 .f32) :
    Σ' (L6 : List (View.Piece (Elt F) S256x8x128 .bf16)), Σ' (L7 : List (View.Piece (Elt F) S256x8x128 .bf16)), Σ' (L8 : List (View.Piece (Elt F) S256x8x128 .bf16)), Σ' (L9 : List (View.Piece (Elt F) S256x4096 .fp8e4m3)), Σ' (L10 : List (View.Piece (Elt F) S1x256 .f32)), Σ' (LS0 : List (View.Piece (Elt F) S256x128 .f32)), Σ' (LS1 : List (View.Piece (Elt F) S256x128 .f32)), { LS2 : List (View.Piece (Elt F) S256x128 .f32) //
      ∀ (xi7 : Vec F S256x8x128 .bf16) (xi8 : Vec F S256x8x128 .bf16) (xi10 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xo9 ∗ owns (c : Thread nD τ) arg11 fullShare xi10 ∗ owns (c : Thread nD τ) arg12 fullShare xs0 ∗ owns (c : Thread nD τ) arg13 fullShare xs1 ∗ owns (c : Thread nD τ) arg14 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ owns (c : Thread nD τ) arg10 fullShare xo9 ∗ owns (c : Thread nD τ) arg11 fullShare xi10 ∗ owns (c : Thread nD τ) arg12 fullShare xs0 ∗ owns (c : Thread nD τ) arg13 fullShare xs1 ∗ owns (c : Thread nD τ) arg14 fullShare xs2) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, [], [], [], [], [], [], [], fun xi7 xi8 xi10 E K => ?run⟩
  case run =>
    simp only [cc0_rmsnorm_fp8_qkv_rope_eq_skeleton]; unfold cc0_rmsnorm_fp8_qkv_rope_skel
    simp only [k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9; obtain rfl := harg11.eq_unread hf10; obtain rfl := harg12.eq_unread hfs0; obtain rfl := harg13.eq_unread hfs1; obtain rfl := harg14.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.KernelIdeal.Hand

end
-- ==== Proof.KernelValue.RunC.lean ====
module

public import proofs.«01_k».proof.Proof.KernelValue.RunB

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 not taken, `scf.if` 2 taken, `scf.if` 3 not taken: points 4), WITH the
    proof that on whole staging memrefs — the inputs' at their contents, the outputs it reads before covering (9) at their running contents `xo·`, the outputs it leaves idle (6, 8, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : ¬cond0_0 i) (hc1 : ¬cond0_1 i) (hc2 : cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) (xo9 : Vec F S256x4096 .fp8e4m3) (xs0 : Vec F S256x128 .f32) (xs1 : Vec F S256x128 .f32) (xs2 : Vec F S256x128 .f32) :
    Σ' (L6 : List (View.Piece (Elt F) S256x8x128 .bf16)), Σ' (L7 : List (View.Piece (Elt F) S256x8x128 .bf16)), Σ' (L8 : List (View.Piece (Elt F) S256x8x128 .bf16)), Σ' (L9 : List (View.Piece (Elt F) S256x4096 .fp8e4m3)), Σ' (L10 : List (View.Piece (Elt F) S1x256 .f32)), Σ' (LS0 : List (View.Piece (Elt F) S256x128 .f32)), Σ' (LS1 : List (View.Piece (Elt F) S256x128 .f32)), { LS2 : List (View.Piece (Elt F) S256x128 .f32) //
      ∀ (xi6 : Vec F S256x8x128 .bf16) (xi8 : Vec F S256x8x128 .bf16) (xi10 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ owns (c : Thread nD τ) arg9 fullShare xi8 ∗ owns (c : Thread nD τ) arg10 fullShare xo9 ∗ owns (c : Thread nD τ) arg11 fullShare xi10 ∗ owns (c : Thread nD τ) arg12 fullShare xs0 ∗ owns (c : Thread nD τ) arg13 fullShare xs1 ∗ owns (c : Thread nD τ) arg14 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f L7) ∗ owns (c : Thread nD τ) arg9 fullShare xi8 ∗ owns (c : Thread nD τ) arg10 fullShare xo9 ∗ owns (c : Thread nD τ) arg11 fullShare xi10 ∗ owns (c : Thread nD τ) arg12 fullShare xs0 ∗ owns (c : Thread nD τ) arg13 fullShare xs1 ∗ owns (c : Thread nD τ) arg14 fullShare xs2) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, [], [], [], [], [], [], fun xi6 xi8 xi10 E K => ?run⟩
  case run =>
    simp only [cc0_rmsnorm_fp8_qkv_rope_eq_skeleton]; unfold cc0_rmsnorm_fp8_qkv_rope_skel
    simp only [k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg12.eq_unread hfs0; obtain rfl := harg13.eq_unread hfs1; obtain rfl := harg14.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.KernelIdeal.Hand

end
-- ==== Proof.KernelValue.RunD.lean ====
module

public import proofs.«01_k».proof.Proof.KernelValue.RunC

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 5), WITH the
    proof that on whole staging memrefs — the inputs' at their contents, the outputs it reads before covering (6, 7, 9, 10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (hc0 : ¬cond0_0 i) (hc1 : ¬cond0_1 i) (hc2 : ¬cond0_2 i) (hc3 : cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) (xo6 : Vec F S256x8x128 .bf16) (xo7 : Vec F S256x8x128 .bf16) (xo9 : Vec F S256x4096 .fp8e4m3) (xo10 : Vec F S1x256 .f32) (xs0 : Vec F S256x128 .f32) (xs1 : Vec F S256x128 .f32) (xs2 : Vec F S256x128 .f32) :
    Σ' (L6 : List (View.Piece (Elt F) S256x8x128 .bf16)), Σ' (L7 : List (View.Piece (Elt F) S256x8x128 .bf16)), Σ' (L8 : List (View.Piece (Elt F) S256x8x128 .bf16)), Σ' (L9 : List (View.Piece (Elt F) S256x4096 .fp8e4m3)), Σ' (L10 : List (View.Piece (Elt F) S1x256 .f32)), Σ' (LS0 : List (View.Piece (Elt F) S256x128 .f32)), Σ' (LS1 : List (View.Piece (Elt F) S256x128 .f32)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ (∃ d, owns (c : Thread nD τ) arg9 fullShare d) ∗ owns (c : Thread nD τ) arg10 fullShare xo9 ∗ owns (c : Thread nD τ) arg11 fullShare xo10 ∗ owns (c : Thread nD τ) arg12 fullShare xs0 ∗ owns (c : Thread nD τ) arg13 fullShare xs1 ∗ owns (c : Thread nD τ) arg14 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ (∃ f, arg9.view.loc (c : Thread nD τ) ↦[arg9.view.set]{fullShare} arg9.view.writes (Elt F) f L8) ∗ owns (c : Thread nD τ) arg10 fullShare xo9 ∗ owns (c : Thread nD τ) arg11 fullShare xo10 ∗ owns (c : Thread nD τ) arg12 fullShare xs0 ∗ owns (c : Thread nD τ) arg13 fullShare xs1 ∗ owns (c : Thread nD τ) arg14 fullShare xs2) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], ?_, [], [], [], [], [], fun E K => ?run⟩
  case run =>
    simp only [cc0_rmsnorm_fp8_qkv_rope_eq_skeleton]; unfold cc0_rmsnorm_fp8_qkv_rope_skel
    rw [k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1; obtain rfl := harg14.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    isplitl [HS1]
    · iexists _; isplitr; · ipureintro; exact harg13.read_unread _
      iexact HS1
    iexists _; isplitr; · ipureintro; exact harg14.read_unread _
    iexact HS2

end Cert.KernelIdeal.Hand

end
-- ==== Proof.KernelValue.Outs.lean ====
module

public import proofs.«01_k».proof.Proof.KernelValue.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section A

variable (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (hc0 : cond0_0 i) (hc1 : cond0_1 i) (hc2 : ¬cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32)

/-- Case A's pieces for output 6 tile its block (4 stores of `S256x2x128`, checked by the kernel's evaluation: Lib/Ring.lean `Piece.tiledL`, linear in the pieces, through a loop's `@[irreducible]` trip theorem too), so they cover it. -/
theorem cover0_A_6 (y : S256x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1 S256x2x128.size (by sl_kernel_rfl) y

/-- What case A leaves in output 6's staging buffer: its pieces read back over junk. -/
def out0_A_6 : Vec F S256x8x128 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).1)

/-- Case A stores nothing into output 8 (the window is idle at its points and not written back there):
    no pieces — a placeholder (junk read back) that nothing consults, since at these points the window is neither
    written back nor read at the next point (Lib/Pipeline.lean "Idle points"). -/
def out0_A_8 : Vec F S256x8x128 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.1)

/-- Case A's pieces for output 9 tile its block (8 stores of `S32x4096`, checked by the kernel's evaluation: Lib/Ring.lean `Piece.tiledL`, linear in the pieces, through a loop's `@[irreducible]` trip theorem too), so they cover it. -/
theorem cover0_A_9 (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1 S32x4096.size (by sl_kernel_rfl) y

/-- What case A leaves in output 9's staging buffer: its pieces read back over junk. -/
def out0_A_9 : Vec F S256x4096 .fp8e4m3 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.1)

/-- Case A's pieces for output 10 tile its block (1 store of `S1x256`, checked by the kernel's evaluation: Lib/Ring.lean `Piece.tiledL`, linear in the pieces, through a loop's `@[irreducible]` trip theorem too), so they cover it. -/
theorem cover0_A_10 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1 S1x256.size (by sl_kernel_rfl) y

/-- What case A leaves in output 10's staging buffer: its pieces read back over junk. -/
def out0_A_10 : Vec F S1x256 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.1)

/-- Case A's pieces for scratch `arg12`, which the kernel carries between points, cover it: 8 pieces of `S32x128` tiling it (Lib/Ring.lean `Piece.tiledL`). -/
theorem scover0_A_0 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.1 S32x128.size (by sl_kernel_rfl) y

/-- What case A leaves in scratch `arg12`: its pieces read back over junk. -/
def sout0_A_0 : Vec F S256x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.1)

/-- Case A's pieces for scratch `arg13`, which the kernel carries between points, cover it: 2 pieces of `S128x128` tiling it (Lib/Ring.lean `Piece.tiledL`). -/
theorem scover0_A_1 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.1 S128x128.size (by sl_kernel_rfl) y

/-- What case A leaves in scratch `arg13`: its pieces read back over junk. -/
def sout0_A_1 : Vec F S256x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.1)

/-- Case A's pieces for scratch `arg14`, which the kernel carries between points, cover it: 2 pieces of `S128x128` tiling it (Lib/Ring.lean `Piece.tiledL`). -/
theorem scover0_A_2 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.2.1 S128x128.size (by sl_kernel_rfl) y

/-- What case A leaves in scratch `arg14`: its pieces read back over junk. -/
def sout0_A_2 : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5).2.2.2.2.2.2.2.1)

end A

section B

variable (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (hc0 : ¬cond0_0 i) (hc1 : cond0_1 i) (hc2 : ¬cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) (xo9 : Vec F S256x4096 .fp8e4m3) (xs0 : Vec F S256x128 .f32) (xs1 : Vec F S256x128 .f32) (xs2 : Vec F S256x128 .f32)

/-- Case B's pieces for output 6 tile its block (4 stores of `S256x2x128`, checked by the kernel's evaluation: Lib/Ring.lean `Piece.tiledL`, linear in the pieces, through a loop's `@[irreducible]` trip theorem too), so they cover it. -/
theorem cover0_B_6 (y : S256x8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).1 S256x2x128.size (by sl_kernel_rfl) y

/-- What case B leaves in output 6's staging buffer: its pieces read back over junk. -/
def out0_B_6 : Vec F S256x8x128 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).1)

/-- Case B stores nothing into output 8 (the window is idle at its points and not written back there):
    no pieces — a placeholder (junk read back) that nothing consults, since at these points the window is neither
    written back nor read at the next point (Lib/Pipeline.lean "Idle points"). -/
def out0_B_8 : Vec F S256x8x128 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).2.2.1)

end B

section C

variable (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (hc0 : ¬cond0_0 i) (hc1 : ¬cond0_1 i) (hc2 : cond0_2 i) (hc3 : ¬cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) (xo9 : Vec F S256x4096 .fp8e4m3) (xs0 : Vec F S256x128 .f32) (xs1 : Vec F S256x128 .f32) (xs2 : Vec F S256x128 .f32)

/-- Case C's pieces for output 7 tile its block (4 stores of `S256x2x128`, checked by the kernel's evaluation: Lib/Ring.lean `Piece.tiledL`, linear in the pieces, through a loop's `@[irreducible]` trip theorem too), so they cover it. -/
theorem cover0_C_7 (y : S256x8x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).2.1 S256x2x128.size (by sl_kernel_rfl) y

/-- What case C leaves in output 7's staging buffer: its pieces read back over junk. -/
def out0_C_7 : Vec F S256x8x128 .bf16 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).2.1)

/-- Case C stores nothing into output 8 (the window is idle at its points and not written back there):
    no pieces — a placeholder (junk read back) that nothing consults, since at these points the window is neither
    written back nor read at the next point (Lib/Pipeline.lean "Idle points"). -/
def out0_C_8 : Vec F S256x8x128 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo9 xs0 xs1 xs2).2.2.1)

end C

section D

variable (c : Dev nD) (i : grid0.Coords) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x256 .i32) (harg5 : arg5.IsWhole) (arg6 : Memref sig .tc .vmem S64x128 .f32) (harg6 : arg6.IsWhole) (arg7 : Memref sig .tc .vmem S256x8x128 .bf16) (harg7 : arg7.IsWhole) (arg8 : Memref sig .tc .vmem S256x8x128 .bf16) (harg8 : arg8.IsWhole) (arg9 : Memref sig .tc .vmem S256x8x128 .bf16) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole)
    (hc0 : ¬cond0_0 i) (hc1 : ¬cond0_1 i) (hc2 : ¬cond0_2 i) (hc3 : cond0_3 i)
    (x0 : Vec F S256x4096 .bf16) (x1 : Vec F S1x4096 .f32) (x2 : Vec F S4096x1024 .fp8e4m3) (x3 : Vec F S1x1024 .f32) (x4 : Vec F S1x256 .i32) (x5 : Vec F S64x128 .f32) (xo6 : Vec F S256x8x128 .bf16) (xo7 : Vec F S256x8x128 .bf16) (xo9 : Vec F S256x4096 .fp8e4m3) (xo10 : Vec F S1x256 .f32) (xs0 : Vec F S256x128 .f32) (xs1 : Vec F S256x128 .f32) (xs2 : Vec F S256x128 .f32)

/-- Case D's pieces for output 8 tile its block (4 stores of `S256x2x128`, checked by the kernel's evaluation: Lib/Ring.lean `Piece.tiledL`, linear in the pieces, through a loop's `@[irreducible]` trip theorem too), so they cover it. -/
theorem cover0_D_8 (y : S256x8x128.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1 xs2).2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1 xs2).2.2.1 S256x2x128.size (by sl_kernel_rfl) y

/-- What case D leaves in output 8's staging buffer: its pieces read back over junk. -/
def out0_D_8 : Vec F S256x8x128 .bf16 :=
  VO0_8.read (Elt F) (VO0_8.writes (Elt F) VO0_8.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 xo6 xo7 xo9 xo10 xs0 xs1 xs2).2.2.1)

end D

variable (m : (ℓ : Loc nD τ sig) → Buf (Elt F) ℓ) (ρ : Dev nD → PrngReg)

/-- What one grid point leaves: the five outputs' staging buffers, then the three scratch buffers. -/
abbrev Step (F : FTy → Type) : Type :=
  Vec F S256x8x128 .bf16 × Vec F S256x8x128 .bf16 ×
    Vec F S256x8x128 .bf16 × Vec F S256x4096 .fp8e4m3 × Vec F S1x256 .f32 × Vec F S256x128 .f32 × Vec F S256x128 .f32 × Vec F S256x128 .f32

/-- What a point of case A leaves, over what the point before left. -/
def stepA (c : Dev nD) (t : Fin cfg0.N) (h0 : t.val % 6 = 0) (h1 : t.val < 4) (h2 : ¬t.val % 6 = 4) (h3 : ¬t.val % 6 = 5) : Step F :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t),
    VO0_7.read (Elt F) VO0_7.junk,
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t),
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t),
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t))

/-- What a point of case B leaves, over what the point before left. -/
def stepB (c : Dev nD) (t : Fin cfg0.N) (h0 : ¬t.val % 6 = 0) (h1 : t.val < 4) (h2 : ¬t.val % 6 = 4) (h3 : ¬t.val % 6 = 5) (prev : Step F) : Step F :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) prev.2.2.2.1 prev.2.2.2.2.2.1 prev.2.2.2.2.2.2.1 prev.2.2.2.2.2.2.2,
    prev.2.1,
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) prev.2.2.2.1 prev.2.2.2.2.2.1 prev.2.2.2.2.2.2.1 prev.2.2.2.2.2.2.2,
    prev.2.2.2.1,
    prev.2.2.2.2.1,
    prev.2.2.2.2.2.1,
    prev.2.2.2.2.2.2.1,
    prev.2.2.2.2.2.2.2)

/-- What a point of case C leaves, over what the point before left. -/
def stepC (c : Dev nD) (t : Fin cfg0.N) (h0 : ¬t.val % 6 = 0) (h1 : ¬t.val < 4) (h2 : t.val % 6 = 4) (h3 : ¬t.val % 6 = 5) (prev : Step F) : Step F :=
  (prev.1,
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) prev.2.2.2.1 prev.2.2.2.2.2.1 prev.2.2.2.2.2.2.1 prev.2.2.2.2.2.2.2,
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) prev.2.2.2.1 prev.2.2.2.2.2.1 prev.2.2.2.2.2.2.1 prev.2.2.2.2.2.2.2,
    prev.2.2.2.1,
    prev.2.2.2.2.1,
    prev.2.2.2.2.2.1,
    prev.2.2.2.2.2.2.1,
    prev.2.2.2.2.2.2.2)

/-- What a point of case D leaves, over what the point before left. -/
def stepD (c : Dev nD) (t : Fin cfg0.N) (h0 : ¬t.val % 6 = 0) (h1 : ¬t.val < 4) (h2 : ¬t.val % 6 = 4) (h3 : t.val % 6 = 5) (prev : Step F) : Step F :=
  (prev.1,
    prev.2.1,
    out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) prev.1 prev.2.1 prev.2.2.2.1 prev.2.2.2.2.1 prev.2.2.2.2.2.1 prev.2.2.2.2.2.2.1 prev.2.2.2.2.2.2.2,
    prev.2.2.2.1,
    prev.2.2.2.2.1,
    prev.2.2.2.2.2.1,
    prev.2.2.2.2.2.2.1,
    prev.2.2.2.2.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Step F
  | 0, hn => stepA m c ⟨0, hn⟩ (Nat.zero_mod _) (by (try dsimp only); omega) (by (try dsimp only); omega) (by (try dsimp only); omega)
  | n + 1, hn =>
    if h0 : (n + 1) % 6 = 0 then
      if h1 : (n + 1) < 4 then
        if h2 : (n + 1) % 6 = 4 then
          False.elim (by have hN : n + 1 < 6 := lt_of_lt_of_eq hn (show cfg0.N = 6 from N_0); omega)
        else
          if h3 : (n + 1) % 6 = 5 then
            False.elim (by have hN : n + 1 < 6 := lt_of_lt_of_eq hn (show cfg0.N = 6 from N_0); omega)
          else
            stepA m c ⟨n + 1, hn⟩ h0 h1 h2 h3
      else
        False.elim (by have hN : n + 1 < 6 := lt_of_lt_of_eq hn (show cfg0.N = 6 from N_0); omega)
    else
      if h1 : (n + 1) < 4 then
        if h2 : (n + 1) % 6 = 4 then
          False.elim (by have hN : n + 1 < 6 := lt_of_lt_of_eq hn (show cfg0.N = 6 from N_0); omega)
        else
          if h3 : (n + 1) % 6 = 5 then
            False.elim (by have hN : n + 1 < 6 := lt_of_lt_of_eq hn (show cfg0.N = 6 from N_0); omega)
          else
            stepB m c ⟨n + 1, hn⟩ h0 h1 h2 h3 (outsAt0 c n (Nat.lt_of_succ_lt hn))
      else
        if h2 : (n + 1) % 6 = 4 then
          if h3 : (n + 1) % 6 = 5 then
            False.elim (by have hN : n + 1 < 6 := lt_of_lt_of_eq hn (show cfg0.N = 6 from N_0); omega)
          else
            stepC m c ⟨n + 1, hn⟩ h0 h1 h2 h3 (outsAt0 c n (Nat.lt_of_succ_lt hn))
        else
          if h3 : (n + 1) % 6 = 5 then
            stepD m c ⟨n + 1, hn⟩ h0 h1 h2 h3 (outsAt0 c n (Nat.lt_of_succ_lt hn))
          else
            False.elim (by have hN : n + 1 < 6 := lt_of_lt_of_eq hn (show cfg0.N = 6 from N_0); omega)

/-- `outsAt0` at a point of case A: that case's contents, over what the point before left. -/
theorem outsAt0_A (c : Dev nD) (t : Fin cfg0.N) (h0 : t.val % 6 = 0) (h1 : t.val < 4) (h2 : ¬t.val % 6 = 4) (h3 : ¬t.val % 6 = 5) :
    outsAt0 m c t.val t.isLt = stepA m c t h0 h1 h2 h3 := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 6 = 0) (h1 : t.val < 4) (h2 : ¬t.val % 6 = 4) (h3 : ¬t.val % 6 = 5) :
    outsAt0 m c t.val t.isLt = stepB m c t h0 h1 h2 h3
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 6 = 0) (h1 : ¬t.val < 4) (h2 : t.val % 6 = 4) (h3 : ¬t.val % 6 = 5) :
    outsAt0 m c t.val t.isLt = stepC m c t h0 h1 h2 h3
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : ¬t.val % 6 = 0) (h1 : ¬t.val < 4) (h2 : ¬t.val % 6 = 4) (h3 : t.val % 6 = 5) :
    outsAt0 m c t.val t.isLt = stepD m c t h0 h1 h2 h3
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

end Cert.KernelIdeal.Hand
-- ==== Proof.KernelValue.Frame.lean ====
module

public import proofs.«01_k».proof.Proof.KernelValue.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At a point that is idle for a window and writes its block back, the body's post is the buffer at `after`. -/
theorem leavesExact_pass {c : Dev nD} (dat : Dat τ (Elt F) Unit ℕ (UR sig nD τ) ℕ cfg0 c) (w : Fin cfg0.W) (t : Fin cfg0.N)
    (hi : cfg0.idle w (cfg0.grid.coords t) = true) (hf : (cfg0.win w).flush t = true) :
    dat.leavesExact w t = owns (c : Thread nD τ) ((cfg0.win w).stage (cfg0.slots t w)) fullShare (dat.after w t) := by
  unfold Dat.leavesExact; rw [hi, hf]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2.1) ∗ owns (c : Thread nD τ) scM0_2 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 6 := lt_of_lt_of_eq t.isLt (show cfg0.N = 6 from N_0)
  rw [after0_6, after0_6]
  by_cases h0 : t.val % 6 = 0
  · by_cases h1 : t.val < 4
    · by_cases h2 : t.val % 6 = 4
      · exfalso; omega
      · by_cases h3 : t.val % 6 = 5
        · exfalso; omega
        · rw [liveAt0_6_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val < 4
    · by_cases h2 : t.val % 6 = 4
      · exfalso; omega
      · by_cases h3 : t.val % 6 = 5
        · exfalso; omega
        · rw [liveAt0_6_B t (fun h => h0 ((hcond0_0 t).mp h)) ((hcond0_1 t).mpr h1) (fun h => h2 ((hcond0_2 t).mp h)) (fun h => h3 ((hcond0_3 t).mp h))] at hi
          exact absurd hi Bool.false_ne_true
    · by_cases h2 : t.val % 6 = 4
      · by_cases h3 : t.val % 6 = 5
        · exfalso; omega
        · rw [outsAt0_C m c t h0 h1 h2 h3]
          rfl
      · by_cases h3 : t.val % 6 = 5
        · rw [outsAt0_D m c t h0 h1 h2 h3]
          rfl
        · exfalso; omega

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 6 := lt_of_lt_of_eq t.isLt (show cfg0.N = 6 from N_0)
  rw [after0_7, after0_7]
  by_cases h0 : t.val % 6 = 0
  · by_cases h1 : t.val < 4
    · by_cases h2 : t.val % 6 = 4
      · exfalso; omega
      · by_cases h3 : t.val % 6 = 5
        · exfalso; omega
        · exfalso; omega
    · exfalso; omega
  · by_cases h1 : t.val < 4
    · by_cases h2 : t.val % 6 = 4
      · exfalso; omega
      · by_cases h3 : t.val % 6 = 5
        · exfalso; omega
        · rw [outsAt0_B m c t h0 h1 h2 h3]
          rfl
    · by_cases h2 : t.val % 6 = 4
      · by_cases h3 : t.val % 6 = 5
        · exfalso; omega
        · rw [liveAt0_7_C t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 6 = 5
        · rw [outsAt0_D m c t h0 h1 h2 h3]
          rfl
        · exfalso; omega

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 6 := lt_of_lt_of_eq t.isLt (show cfg0.N = 6 from N_0)
  rw [after0_9, after0_9]
  by_cases h0 : t.val % 6 = 0
  · by_cases h1 : t.val < 4
    · by_cases h2 : t.val % 6 = 4
      · exfalso; omega
      · by_cases h3 : t.val % 6 = 5
        · exfalso; omega
        · rw [liveAt0_9_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val < 4
    · by_cases h2 : t.val % 6 = 4
      · exfalso; omega
      · by_cases h3 : t.val % 6 = 5
        · exfalso; omega
        · rw [outsAt0_B m c t h0 h1 h2 h3]
          rfl
    · by_cases h2 : t.val % 6 = 4
      · by_cases h3 : t.val % 6 = 5
        · exfalso; omega
        · rw [outsAt0_C m c t h0 h1 h2 h3]
          rfl
      · by_cases h3 : t.val % 6 = 5
        · rw [outsAt0_D m c t h0 h1 h2 h3]
          rfl
        · exfalso; omega

/-- Output 10's contents CARRY through the points that leave it idle: at such a point, its buffer not fresh, the proof data's
    `after` is the point before's (the case there stores nothing into the window and its term says so; a case that stores
    into it is not idle there by `liveAt0_10_κ`) — the hypothesis of Lib/Pipeline/TableIdle.lean `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 6 := lt_of_lt_of_eq t.isLt (show cfg0.N = 6 from N_0)
  rw [after0_10, after0_10]
  by_cases h0 : t.val % 6 = 0
  · by_cases h1 : t.val < 4
    · by_cases h2 : t.val % 6 = 4
      · exfalso; omega
      · by_cases h3 : t.val % 6 = 5
        · exfalso; omega
        · rw [liveAt0_10_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val < 4
    · by_cases h2 : t.val % 6 = 4
      · exfalso; omega
      · by_cases h3 : t.val % 6 = 5
        · exfalso; omega
        · rw [outsAt0_B m c t h0 h1 h2 h3]
          rfl
    · by_cases h2 : t.val % 6 = 4
      · by_cases h3 : t.val % 6 = 5
        · exfalso; omega
        · rw [outsAt0_C m c t h0 h1 h2 h3]
          rfl
      · by_cases h3 : t.val % 6 = 5
        · rw [outsAt0_D m c t h0 h1 h2 h3]
          rfl
        · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 6 = 0) (h1 : t.val < 4) (h2 : ¬t.val % 6 = 4) (h3 : ¬t.val % 6 = 5) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_B t (fun h => h0 ((hcond0_0 t).mp h)) ((hcond0_1 t).mpr h1) (fun h => h2 ((hcond0_2 t).mp h)) (fun h => h3 ((hcond0_3 t).mp h))]; exact Bool.false_ne_true)]
  dsimp only [dats]
/-- At a point of case C output 9's current staging buffer holds what the point before left: the buffer is not fresh
    there (`notFresh0_9_C`: stored into since the region's entry or the last write-back, carried through the points that
    leave it idle by `hcarry0_9`; Lib/Pipeline/TableIdle.lean `Dat.before_out_traj`). -/
theorem before0_9_C (c : Dev nD) (t : Fin cfg0.N) (h0 : ¬t.val % 6 = 0) (h1 : ¬t.val < 4) (h2 : t.val % 6 = 4) (h3 : ¬t.val % 6 = 5) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_C t (fun h => h0 ((hcond0_0 t).mp h)) (fun h => h1 ((hcond0_1 t).mp h)) ((hcond0_2 t).mpr h2) (fun h => h3 ((hcond0_3 t).mp h))]; exact Bool.false_ne_true)]
  dsimp only [dats]
/-- At a point of case D output 6's current staging buffer holds what the point before left: the buffer is not fresh
    there (`notFresh0_6_D`: stored into since the region's entry or the last write-back, carried through the points that
    leave it idle by `hcarry0_6`; Lib/Pipeline/TableIdle.lean `Dat.before_out_traj`). -/
theorem before0_6_D (c : Dev nD) (t : Fin cfg0.N) (h0 : ¬t.val % 6 = 0) (h1 : ¬t.val < 4) (h2 : ¬t.val % 6 = 4) (h3 : t.val % 6 = 5) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_D t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case D output 7's current staging buffer holds what the point before left: the buffer is not fresh
    there (`notFresh0_7_D`: stored into since the region's entry or the last write-back, carried through the points that
    leave it idle by `hcarry0_7`; Lib/Pipeline/TableIdle.lean `Dat.before_out_traj`). -/
theorem before0_7_D (c : Dev nD) (t : Fin cfg0.N) (h0 : ¬t.val % 6 = 0) (h1 : ¬t.val < 4) (h2 : ¬t.val % 6 = 4) (h3 : t.val % 6 = 5) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_D t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case D output 9's current staging buffer holds what the point before left: the buffer is not fresh
    there (`notFresh0_9_D`: stored into since the region's entry or the last write-back, carried through the points that
    leave it idle by `hcarry0_9`; Lib/Pipeline/TableIdle.lean `Dat.before_out_traj`). -/
theorem before0_9_D (c : Dev nD) (t : Fin cfg0.N) (h0 : ¬t.val % 6 = 0) (h1 : ¬t.val < 4) (h2 : ¬t.val % 6 = 4) (h3 : t.val % 6 = 5) (d) :
    (dats m 0 c).before 9 t d = (outsAt0 m c (t.val - 1) (Nat.lt_of_le_of_lt (Nat.sub_le _ _) t.isLt)).2.2.2.1 := by
  rw [Dat.before_out_traj _ 9 rfl (fun _ _ => rfl) (hcarry0_9 m c) t.val t rfl d,
    if_neg (by rw [notFresh0_9_D t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case D output 10's current staging buffer holds what the point before left: the buffer is not fresh
    there (`notFresh0_10_D`: stored into since the region's entry or the last write-back, carried through the points that
    leave it idle by `hcarry0_10`; Lib/Pipeline/TableIdle.lean `Dat.before_out_traj`). -/
theorem before0_10_D (c : Dev nD) (t : Fin cfg0.N) (h0 : ¬t.val % 6 = 0) (h1 : ¬t.val < 4) (h2 : ¬t.val % 6 = 4) (h3 : t.val % 6 = 5) (d) :
    (dats m 0 c).before 10 t d = (outsAt0 m c (t.val - 1) (Nat.lt_of_le_of_lt (Nat.sub_le _ _) t.isLt)).2.2.2.2.1 := by
  rw [Dat.before_out_traj _ 10 rfl (fun _ _ => rfl) (hcarry0_10 m c) t.val t rfl d,
    if_neg (by rw [notFresh0_10_D t (fun h => h0 ((hcond0_0 t).mp h)) (fun h => h1 ((hcond0_1 t).mp h)) (fun h => h2 ((hcond0_2 t).mp h)) ((hcond0_3 t).mpr h3)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 6 := lt_of_lt_of_eq t.isLt (show cfg0.N = 6 from N_0)
  by_cases h0 : t.val % 6 = 0
  · by_cases h1 : t.val < 4
    · by_cases h2 : t.val % 6 = 4
      · exfalso; omega
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h)) (fun h => h3 ((hcond0_3 t).mp h))], after0_6]
          rw [Dat.leavesExact_idle (dats m 0 c) 7 t (idleAt0_7_A t ((hcond0_0 t).mpr h0) ((hcond0_1 t).mpr h1) (fun h => h2 ((hcond0_2 t).mp h)) (fun h => h3 ((hcond0_3 t).mp h))) (noFlush0_7_A t ((hcond0_0 t).mpr h0) ((hcond0_1 t).mpr h1) (fun h => h2 ((hcond0_2 t).mp h)) (fun h => h3 ((hcond0_3 t).mp h)))]
          rw [Dat.leavesExact_idle (dats m 0 c) 8 t (idleAt0_8_A t ((hcond0_0 t).mpr h0) ((hcond0_1 t).mpr h1) (fun h => h2 ((hcond0_2 t).mp h)) (fun h => h3 ((hcond0_3 t).mp h))) (noFlush0_8_A t ((hcond0_0 t).mpr h0) ((hcond0_1 t).mpr h1) (fun h => h2 ((hcond0_2 t).mp h)) (fun h => h3 ((hcond0_3 t).mp h)))]
          rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h)) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h)) (fun h => h3 ((hcond0_3 t).mp h))], after0_10]
          by_cases hz : t.val = 0
          · rw [PhiS_castSucc m c t, PhiS_zero m c _ _ hz, PhiA0_eq]
            rw [outsAt0_A m c t h0 h1 h2 h3]
            unfold stepA out0_A_6 out0_A_9 out0_A_10 sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)).2.2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            isplitl [H9]; · iexists _; iexact H9
            isplitl [H10]; · iexists _; iexact H10
            isplitl [HS0]; · iexact HS0
            isplitl [HS1]; · iexact HS1
            isplitl [HS2]; · iexact HS2
            iintro ⟨H0, H1, H2, H3, H4, H5, ⟨%e6, H6⟩, H7, H8, ⟨%e9, H9⟩, ⟨%e10, H10⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_A_6 c _ _ _ _ _ _ _ _ _ _ _ _ _ _ _ _ _ _ _ _ _ _ _ _ _ _ _ _ _ _ _ _ _ _ _ _ _ _ _)
            isplitl [H7]; · iexists _; iexact H7
            isplitl [H8]; · iexists _; iexact H8
            isplitl [H9]
            · unfold owns; iexists _; isplitr
              swap; · iexact H9
              ipureintro; exact View.read_writes_of_cover _ _ _ _ _ (cover0_A_9 c _ _ _ _ _ _ _ _ _ _ _ _ _ _ _ _ _ _ _ _ _ _ _ _ _ _ _ _ _ _ _ _ _ _ _ _ _ _ _)
            unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _)
          · exfalso; have hN : t.val < 6 := lt_of_lt_of_eq t.isLt (show cfg0.N = 6 from N_0); omega
    · exfalso; omega
  · by_cases h1 : t.val < 4
    · by_cases h2 : t.val % 6 = 4
      · exfalso; omega
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h)) (fun h => h3 ((hcond0_3 t).mp h))], after0_6]
          rw [Dat.leavesExact_idle (dats m 0 c) 7 t (idleAt0_7_B t (fun h => h0 ((hcond0_0 t).mp h)) ((hcond0_1 t).mpr h1) (fun h => h2 ((hcond0_2 t).mp h)) (fun h => h3 ((hcond0_3 t).mp h))) (noFlush0_7_B t (fun h => h0 ((hcond0_0 t).mp h)) ((hcond0_1 t).mpr h1) (fun h => h2 ((hcond0_2 t).mp h)) (fun h => h3 ((hcond0_3 t).mp h)))]
          rw [Dat.leavesExact_idle (dats m 0 c) 8 t (idleAt0_8_B t (fun h => h0 ((hcond0_0 t).mp h)) ((hcond0_1 t).mpr h1) (fun h => h2 ((hcond0_2 t).mp h)) (fun h => h3 ((hcond0_3 t).mp h))) (noFlush0_8_B t (fun h => h0 ((hcond0_0 t).mp h)) ((hcond0_1 t).mpr h1) (fun h => h2 ((hcond0_2 t).mp h)) (fun h => h3 ((hcond0_3 t).mp h)))]
          rw [Dat.leavesExact_idle (dats m 0 c) 9 t (idleAt0_9_B t (fun h => h0 ((hcond0_0 t).mp h)) ((hcond0_1 t).mpr h1) (fun h => h2 ((hcond0_2 t).mp h)) (fun h => h3 ((hcond0_3 t).mp h))) (noFlush0_9_B t (fun h => h0 ((hcond0_0 t).mp h)) ((hcond0_1 t).mpr h1) (fun h => h2 ((hcond0_2 t).mp h)) (fun h => h3 ((hcond0_3 t).mp h)))]
          rw [Dat.leavesExact_idle (dats m 0 c) 10 t (idleAt0_10_B t (fun h => h0 ((hcond0_0 t).mp h)) ((hcond0_1 t).mpr h1) (fun h => h2 ((hcond0_2 t).mp h)) (fun h => h3 ((hcond0_3 t).mp h))) (noFlush0_10_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 6 := lt_of_lt_of_eq t.isLt (show cfg0.N = 6 from N_0); omega
          · rw [PhiS_castSucc m c t, PhiS_pos m c _ _ hz]
            rw [outsAt0_B m c t h0 h1 h2 h3]
            simp only [before0_9_B m c t h0 h1 h2 h3]
            unfold stepB out0_B_6; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) _ _ _ _).2.2.2.2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            isplitl [H9]; · iexact H9
            isplitl [H10]; · iexact H10
            isplitl [HS0]; · iexact HS0
            isplitl [HS1]; · iexact HS1
            isplitl [HS2]; · iexact HS2
            iintro ⟨H0, H1, H2, H3, H4, H5, ⟨%e6, H6⟩, H7, H8, H9, H10, HS0, HS1, HS2⟩
            isplitl [HS0 HS1 HS2 Hg]
            · isplitl [HS0 HS1 HS2]
              · isplitl [HS0]
                · iexact HS0
                isplitl [HS1]
                · iexact HS1
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_B_6 c _ _ _ _ _ _ _ _ _ _ _ _ _ _ _ _ _ _ _ _ _ _ _ _ _ _ _ _ _ _ _ _ _ _ _ _ _ _ _ _ _ _ _)
            isplitl [H7]; · iexists _; iexact H7
            isplitl [H8]; · iexists _; iexact H8
            isplitl [H9]; · iexists d9; iexact H9
            iexists _; iexact H10
    · by_cases h2 : t.val % 6 = 4
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [Dat.leavesExact_idle (dats m 0 c) 6 t (idleAt0_6_C t (fun h => h0 ((hcond0_0 t).mp h)) (fun h => h1 ((hcond0_1 t).mp h)) ((hcond0_2 t).mpr h2) (fun h => h3 ((hcond0_3 t).mp h))) (noFlush0_6_C t (fun h => h0 ((hcond0_0 t).mp h)) (fun h => h1 ((hcond0_1 t).mp h)) ((hcond0_2 t).mpr h2) (fun h => h3 ((hcond0_3 t).mp h)))]
          rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2) (fun h => h3 ((hcond0_3 t).mp h))], after0_7]
          rw [Dat.leavesExact_idle (dats m 0 c) 8 t (idleAt0_8_C t (fun h => h0 ((hcond0_0 t).mp h)) (fun h => h1 ((hcond0_1 t).mp h)) ((hcond0_2 t).mpr h2) (fun h => h3 ((hcond0_3 t).mp h))) (noFlush0_8_C t (fun h => h0 ((hcond0_0 t).mp h)) (fun h => h1 ((hcond0_1 t).mp h)) ((hcond0_2 t).mpr h2) (fun h => h3 ((hcond0_3 t).mp h)))]
          rw [Dat.leavesExact_idle (dats m 0 c) 9 t (idleAt0_9_C t (fun h => h0 ((hcond0_0 t).mp h)) (fun h => h1 ((hcond0_1 t).mp h)) ((hcond0_2 t).mpr h2) (fun h => h3 ((hcond0_3 t).mp h))) (noFlush0_9_C t (fun h => h0 ((hcond0_0 t).mp h)) (fun h => h1 ((hcond0_1 t).mp h)) ((hcond0_2 t).mpr h2) (fun h => h3 ((hcond0_3 t).mp h)))]
          rw [Dat.leavesExact_idle (dats m 0 c) 10 t (idleAt0_10_C t (fun h => h0 ((hcond0_0 t).mp h)) (fun h => h1 ((hcond0_1 t).mp h)) ((hcond0_2 t).mpr h2) (fun h => h3 ((hcond0_3 t).mp h))) (noFlush0_10_C t (fun h => h0 ((hcond0_0 t).mp h)) (fun h => h1 ((hcond0_1 t).mp h)) ((hcond0_2 t).mpr h2) (fun h => h3 ((hcond0_3 t).mp h)))]
          by_cases hz : t.val = 0
          · exfalso; have hN : t.val < 6 := lt_of_lt_of_eq t.isLt (show cfg0.N = 6 from N_0); omega
          · rw [PhiS_castSucc m c t, PhiS_pos m c _ _ hz]
            rw [outsAt0_C m c t h0 h1 h2 h3]
            simp only [before0_9_C m c t h0 h1 h2 h3]
            unfold stepC out0_C_7; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) _ _ _ _).2.2.2.2.2.2.2.2 _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [H8]; · iexact H8
            isplitl [H9]; · iexact H9
            isplitl [H10]; · iexact H10
            isplitl [HS0]; · iexact HS0
            isplitl [HS1]; · iexact HS1
            isplitl [HS2]; · iexact HS2
            iintro ⟨H0, H1, H2, H3, H4, H5, H6, ⟨%e7, H7⟩, H8, H9, H10, HS0, HS1, HS2⟩
            isplitl [HS0 HS1 HS2 Hg]
            · isplitl [HS0 HS1 HS2]
              · isplitl [HS0]
                · iexact HS0
                isplitl [HS1]
                · iexact HS1
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]
            · unfold owns; iexists _; isplitr
              swap; · iexact H7
              ipureintro; exact View.read_writes_of_cover _ _ _ _ _ (cover0_C_7 c _ _ _ _ _ _ _ _ _ _ _ _ _ _ _ _ _ _ _ _ _ _ _ _ _ _ _ _ _ _ _ _ _ _ _ _ _ _ _ _ _ _ _)
            isplitl [H8]; · iexists _; iexact H8
            isplitl [H9]; · iexists d9; iexact H9
            iexists _; iexact H10
      · by_cases h3 : t.val % 6 = 5
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [leavesExact_pass (dats m 0 c) 6 t (idleAt0_6_D t (fun h => h0 ((hcond0_0 t).mp h)) (fun h => h1 ((hcond0_1 t).mp h)) (fun h => h2 ((hcond0_2 t).mp h)) ((hcond0_3 t).mpr h3)) (flush0_6_D t (fun h => h0 ((hcond0_0 t).mp h)) (fun h => h1 ((hcond0_1 t).mp h)) (fun h => h2 ((hcond0_2 t).mp h)) ((hcond0_3 t).mpr h3)), after0_6]
          rw [leavesExact_pass (dats m 0 c) 7 t (idleAt0_7_D t (fun h => h0 ((hcond0_0 t).mp h)) (fun h => h1 ((hcond0_1 t).mp h)) (fun h => h2 ((hcond0_2 t).mp h)) ((hcond0_3 t).mpr h3)) (flush0_7_D t (fun h => h0 ((hcond0_0 t).mp h)) (fun h => h1 ((hcond0_1 t).mp h)) (fun h => h2 ((hcond0_2 t).mp h)) ((hcond0_3 t).mpr h3)), after0_7]
          rw [show (dats m 0 c).leavesExact 8 t = owns (c : Thread nD τ) (ms0_8 t) fullShare ((dats m 0 c).after 8 t) from by
      unfold Dat.leavesExact; rw [liveAt0_8_D t (fun h => h0 ((hcond0_0 t).mp h)) (fun h => h1 ((hcond0_1 t).mp h)) (fun h => h2 ((hcond0_2 t).mp h)) ((hcond0_3 t).mpr h3)], after0_8]
          rw [leavesExact_pass (dats m 0 c) 9 t (idleAt0_9_D t (fun h => h0 ((hcond0_0 t).mp h)) (fun h => h1 ((hcond0_1 t).mp h)) (fun h => h2 ((hcond0_2 t).mp h)) ((hcond0_3 t).mpr h3)) (flush0_9_D t (fun h => h0 ((hcond0_0 t).mp h)) (fun h => h1 ((hcond0_1 t).mp h)) (fun h => h2 ((hcond0_2 t).mp h)) ((hcond0_3 t).mpr h3)), after0_9]
          rw [leavesExact_pass (dats m 0 c) 10 t (idleAt0_10_D t (fun h => h0 ((hcond0_0 t).mp h)) (fun h => h1 ((hcond0_1 t).mp h)) (fun h => h2 ((hcond0_2 t).mp h)) ((hcond0_3 t).mpr h3)) (flush0_10_D t (fun h => h0 ((hcond0_0 t).mp h)) (fun h => h1 ((hcond0_1 t).mp h)) (fun h => h2 ((hcond0_2 t).mp h)) ((hcond0_3 t).mpr h3)), after0_10]
          by_cases hz : t.val = 0
          · exfalso; have hN : t.val < 6 := lt_of_lt_of_eq t.isLt (show cfg0.N = 6 from N_0); omega
          · rw [PhiS_castSucc m c t, PhiS_pos m c _ _ hz]
            rw [outsAt0_D m c t h0 h1 h2 h3]
            simp only [before0_6_D m c t h0 h1 h2 h3, before0_7_D m c t h0 h1 h2 h3, before0_9_D m c t h0 h1 h2 h3, before0_10_D m c t h0 h1 h2 h3]
            unfold stepD out0_D_8; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_D c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) _ _ _ _ _ _ _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [H9]; · iexact H9
            isplitl [H10]; · iexact H10
            isplitl [HS0]; · iexact HS0
            isplitl [HS1]; · iexact HS1
            isplitl [HS2]; · iexact HS2
            iintro ⟨H0, H1, H2, H3, H4, H5, H6, H7, ⟨%e8, H8⟩, H9, H10, HS0, HS1, HS2⟩
            isplitl [HS0 HS1 HS2 Hg]
            · isplitl [HS0 HS1 HS2]
              · isplitl [HS0]
                · iexact HS0
                isplitl [HS1]
                · iexact HS1
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]
            · unfold owns; iexists _; isplitr
              swap; · iexact H8
              ipureintro; exact View.read_writes_of_cover _ _ _ _ _ (cover0_D_8 c _ _ _ _ _ _ _ _ _ _ _ _ _ _ _ _ _ _ _ _ _ _ _ _ _ _ _ _ _ _ _ _ _ _ _ _ _ _ _ _ _ _ _ _ _ _)
            isplitl [H9]; · iexact H9
            iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Value.Scale.lean ====
module

public import Idealize.ShloMosaic.Lib.IdealHost
public import Mathlib.Data.Finset.Fold

/-!
The arithmetic of a row's scale.

The reference says what the scale is: the least power of two above `v`, where `v` is the row's greatest
magnitude over 448. The kernel finds it by a binary search over the exponent field of a float: eight comparisons of
`v` with a power of two. This module proves that the two agree, for every `v ≥ 0`, infinite or not, and that
the inverse scales agree too.
-/

@[expose] public section

noncomputable section

namespace Cert.Scale

open Idealize.ShloMosaic

/-- The extended real of the 32-bit float with exponent field `k` and nothing else: `0` at `0`, infinite at `255`. -/
def P (k : ℕ) : EReal := Ideal.ofBits .f32 (BitVec.ofNat 32 k <<< 23)

/-- The three fields of the float `P` reads. -/
theorem fields : ∀ k : Fin 256, ((BitVec.ofNat 32 k.val <<< 23).extractLsb' 31 1 == 1#1) = false ∧
    ((BitVec.ofNat 32 k.val <<< 23).extractLsb' 23 8).toNat = k.val ∧ ((BitVec.ofNat 32 k.val <<< 23).extractLsb' 0 23).toNat = 0 := by
  decide +kernel

/-- The value of a float with a clear sign, exponent field `k` and a clear fraction. -/
theorem ieee_of (w : BitVec 32) (k : ℕ) (a : (w.extractLsb' 31 1 == 1#1) = false) (b : (w.extractLsb' 23 8).toNat = k)
    (c : (w.extractLsb' 0 23).toNat = 0) :
    Ideal.ofBits .f32 w = if k = 255 then ⊤ else if k = 0 then 0 else (((2 : ℝ) ^ ((k : ℤ) - 127) : ℝ) : EReal) := by
  show Ideal.ieee 8 23 w = _
  unfold Ideal.ieee
  have hp : (2 : ℝ) ^ ((k : ℤ) - 127) = 1 * ((2 ^ 23 + 0 : ℕ) : ℝ) * 2 ^ ((k : ℤ) - (2 ^ (8 - 1) - 1) - (23 : ℕ)) := by
    have : ((k : ℤ) - (2 ^ (8 - 1) - 1) - (23 : ℕ)) = (k : ℤ) - 127 - 23 := by norm_num
    rw [this, zpow_sub₀ (by norm_num : (2 : ℝ) ≠ 0) ((k : ℤ) - 127) 23]
    norm_num
    ring
  rw [show 8 + 23 = 31 from rfl, a, b, c, hp]
  simp

/-- The float with exponent field `k` and no fraction: zero, a power of two, or infinity. -/
theorem P_eq {k : ℕ} (h : k ≤ 255) : P k = if k = 255 then ⊤ else if k = 0 then 0 else (((2 : ℝ) ^ ((k : ℤ) - 127) : ℝ) : EReal) :=
  ieee_of _ k (fields ⟨k, by omega⟩).1 (fields ⟨k, by omega⟩).2.1 (fields ⟨k, by omega⟩).2.2

/-- The field 0 is zero. -/
theorem P_zero : P 0 = 0 := by rw [P_eq (by omega)]; rfl

/-- Between the ends `P k` is a power of two. -/
theorem P_normal {k : ℕ} (h0 : 1 ≤ k) (h1 : k ≤ 254) : P k = (((2 : ℝ) ^ ((k : ℤ) - 127) : ℝ) : EReal) := by
  rw [P_eq (by omega), if_neg (by omega), if_neg (by omega)]

/-- The field 255 is infinity. -/
theorem P_top : P 255 = ⊤ := by rw [P_eq le_rfl, if_pos rfl]

/-- `P` is strictly increasing up to `255`. -/
theorem P_lt {i j : ℕ} (h : i < j) (hj : j ≤ 255) : P i < P j := by
  rcases Nat.eq_zero_or_pos i with rfl | hi
  · rw [P_zero]
    rcases Nat.lt_or_ge j 255 with h' | h'
    · rw [P_normal (by omega) (by omega), ← EReal.coe_zero, EReal.coe_lt_coe_iff]
      positivity
    · obtain rfl : j = 255 := by omega
      rw [P_top]; exact EReal.zero_lt_top
  · rcases Nat.lt_or_ge j 255 with h' | h'
    · rw [P_normal hi (by omega), P_normal (by omega) (by omega), EReal.coe_lt_coe_iff]
      exact zpow_lt_zpow_right₀ (by norm_num) (by omega)
    · obtain rfl : j = 255 := by omega
      rw [P_top, P_normal hi (by omega)]; exact EReal.coe_lt_top _

/-- `P` is increasing up to `255`. -/
theorem P_le {i j : ℕ} (h : i ≤ j) (hj : j ≤ 255) : P i ≤ P j := by
  rcases Nat.lt_or_ge i j with h' | h'
  · exact (P_lt h' hj).le
  · obtain rfl : i = j := by omega
    exact le_rfl

/-- The least normal number. -/
theorem P_one : Ideal.ofBits .f32 0x00800000#32 = P 1 := rfl
/-- The greatest power of two. -/
theorem P_max : Ideal.ofBits .f32 0x7F000000#32 = P 254 := rfl
/-- Infinity. -/
theorem P_inf : Ideal.ofBits .f32 0x7F800000#32 = ⊤ := P_top
/-- The field 127 is one. -/
theorem P_unit : P 127 = 1 := by rw [P_normal (by norm_num) (by norm_num)]; norm_num

/-! ## The search -/

/-- One step of the search: the field `f` with `b` added, if the float with that field is at most `v`. -/
def bit (v : EReal) (f b : BitVec 32) : BitVec 32 :=
  Scalar.select (FloatOps.cmpf (F := Ideal) (φ := .f32) .oge v
    (FloatOps.ofBits (F := Ideal) .f32 (IntOp.shli .vector (IntOp.addi f b) 23#32))) (IntOp.addi f b) f

/-- The first three steps. -/
def search3 (v : EReal) : BitVec 32 := bit v (bit v (bit v 0#32 128#32) 64#32) 32#32

/-- The last five. -/
def search5 (v : EReal) (f : BitVec 32) : BitVec 32 := bit v (bit v (bit v (bit v (bit v f 16#32) 8#32) 4#32) 2#32) 1#32

/-- The field lies within `n` below the one sought. -/
def Within (v : EReal) (n : ℕ) (f : BitVec 32) : Prop :=
  ∃ k : ℕ, f = BitVec.ofNat 32 k ∧ k + n ≤ 256 ∧ P k ≤ v ∧ (k + n = 256 ∨ v < P (k + n))

/-- One step halves the range. -/
theorem Within.bit {v : EReal} {b : ℕ} {f : BitVec 32} (hb : 0 < b) (h : Within v (2 * b) f) :
    Within v b (bit v f (BitVec.ofNat 32 b)) := by
  obtain ⟨k, rfl, hk, hle, hlt⟩ := h
  have hadd : IntOp.addi (BitVec.ofNat 32 k) (BitVec.ofNat 32 b) = BitVec.ofNat 32 (k + b) := (BitVec.ofNat_add k b).symm
  have hbit : Scale.bit v (BitVec.ofNat 32 k) (BitVec.ofNat 32 b) = if P (k + b) ≤ v then BitVec.ofNat 32 (k + b) else BitVec.ofNat 32 k := by
    unfold Scale.bit
    rw [hadd]
    show Scalar.select (BitVec.ofBool (decide (P (k + b) ≤ v))) _ _ = _
    unfold Scalar.select
    by_cases hp : P (k + b) ≤ v <;> simp [hp]
  rw [hbit]
  by_cases hp : P (k + b) ≤ v
  · rw [if_pos hp]
    exact ⟨k + b, rfl, by omega, hp, by rcases hlt with h | h
                                        · left; omega
                                        · right; rwa [show k + b + b = k + 2 * b by omega]⟩
  · rw [if_neg hp]
    exact ⟨k, rfl, by omega, hle, .inr (not_le.1 hp)⟩

/-- The search ends at the greatest field whose float is at most `v`. -/
theorem search_spec (v : EReal) (hv : 0 ≤ v) :
    ∃ k : ℕ, search5 v (search3 v) = BitVec.ofNat 32 k ∧ k ≤ 255 ∧ P k ≤ v ∧ (k = 255 ∨ v < P (k + 1)) := by
  have h0 : Within v (2 * 128) 0#32 := ⟨0, rfl, by norm_num, by rwa [P_zero], .inl (by norm_num)⟩
  have h1 : Within v (2 * 64) _ := h0.bit (by norm_num)
  have h2 : Within v (2 * 32) _ := h1.bit (by norm_num)
  have h3 : Within v (2 * 16) _ := h2.bit (by norm_num)
  have h4 : Within v (2 * 8) _ := h3.bit (by norm_num)
  have h5 : Within v (2 * 4) _ := h4.bit (by norm_num)
  have h6 : Within v (2 * 2) _ := h5.bit (by norm_num)
  have h7 : Within v (2 * 1) _ := h6.bit (by norm_num)
  obtain ⟨k, hk, hle, hp, hlt⟩ := h7.bit (by norm_num)
  exact ⟨k, hk, by omega, hp, by rcases hlt with h | h
                                 · left; omega
                                 · exact .inr h⟩

/-! ## The kernel's scale and inverse scale, of the field found -/

/-- The scale's exponent: zero for a field at either end or a row of zeros, else the field less 126. -/
def expo (a : EReal) (e : BitVec 32) : BitVec 32 :=
  Scalar.select (IntOp.ori (IntOp.ori (IntOp.cmpi .eq e 0#32) (IntOp.cmpi .eq e 255#32))
    (FloatOps.cmpf (F := Ideal) (φ := .f32) .oeq a (FloatOps.ofBits (F := Ideal) .f32 0x00000000#32))) 0#32 (IntOp.subi e 126#32)

/-- The bits of the float with exponent field `x`, zero below the range and infinite above. -/
def word (x : BitVec 32) : BitVec 32 :=
  Scalar.select (IntOp.cmpi .sle x 0#32) 0#32 (Scalar.select (IntOp.cmpi .sge x 255#32) 2139095040#32 (IntOp.shli .vector x 23#32))

/-- The kernel's scale. -/
def kScale (a v : EReal) : EReal :=
  Ideal.ofBits .f32 (word (IntOp.addi 127#32 (expo a (search5 v (search3 v)))))

/-- The kernel's inverse scale. -/
def kInv (a v : EReal) : EReal :=
  Ideal.ofBits .f32 (word (IntOp.addi 127#32 (IntOp.subi 0#32 (expo a (search5 v (search3 v))))))

/-- The word of the scale from the field of the bound. -/
theorem word_scale : ∀ k : Fin 255, word (IntOp.addi 127#32 (IntOp.subi (BitVec.ofNat 32 k.val) 126#32)) = BitVec.ofNat 32 (k.val + 1) <<< 23 := by
  decide +kernel

/-- The word of the inverse scale from the field of the bound. -/
theorem word_inv : ∀ k : Fin 255, word (IntOp.addi 127#32 (IntOp.subi 0#32 (IntOp.subi (BitVec.ofNat 32 k.val) 126#32)))
    = BitVec.ofNat 32 (253 - k.val) <<< 23 := by
  decide +kernel

/-- A field strictly between the ends is neither end. -/
theorem field_ends : ∀ k : Fin 255, k.val ≠ 0 → IntOp.cmpi .eq (BitVec.ofNat 32 k.val) 0#32 = 0#1 ∧ IntOp.cmpi .eq (BitVec.ofNat 32 k.val) 255#32 = 0#1 := by
  decide +kernel

/-- The exponent is zero where the field is at an end or the row is zero. -/
theorem expo_end (a : EReal) (k : ℕ) (h : k = 0 ∨ k = 255) : expo a (BitVec.ofNat 32 k) = 0#32 := by
  unfold expo Scalar.select
  generalize FloatOps.cmpf (F := Ideal) (φ := .f32) .oeq a _ = d
  rcases h with rfl | rfl <;> revert d <;> decide

/-- Elsewhere it is the field less 126. -/
theorem expo_mid (a : EReal) (k : ℕ) (h0 : k ≠ 0) (h1 : k < 255) (ha : a ≠ 0) :
    expo a (BitVec.ofNat 32 k) = IntOp.subi (BitVec.ofNat 32 k) 126#32 := by
  obtain ⟨e0, e1⟩ := field_ends ⟨k, h1⟩ h0
  simp only at e0 e1
  have e2 : FloatOps.cmpf (F := Ideal) (φ := .f32) .oeq a (FloatOps.ofBits (F := Ideal) .f32 0x00000000#32) = 0#1 := by
    show BitVec.ofBool (decide (a = Ideal.ofBits .f32 0x00000000#32)) = _
    rw [Ideal.ofBits_zero_f32]; simp [ha]
  unfold expo
  rw [e0, e1, e2]
  rfl

/-! ## The reference's -/

/-- The reference's scale: the least normal power of two above `v`, or one where `v` is below them all or infinite. -/
def rScale (v : EReal) : EReal :=
  if P 1 ≤ v ∧ v < ⊤ then (Finset.univ : Finset (Fin 254)).fold min ⊤ (fun i => if v < P (i.val + 1) then P (i.val + 1) else ⊤) else 1

/-- The reference's inverse scale. -/
def rInv (s : EReal) : EReal := if s < P 254 then Ideal.div 1 s else 0

/-- The least power of two above `v` follows the greatest that is not. -/
theorem fold_eq (v : EReal) (k : ℕ) (h0 : 1 ≤ k) (h1 : k ≤ 254) (hle : P k ≤ v) (hlt : v < P (k + 1)) :
    (Finset.univ : Finset (Fin 254)).fold min ⊤ (fun i => if v < P (i.val + 1) then P (i.val + 1) else ⊤) = P (k + 1) := by
  apply le_antisymm
  · rw [Finset.fold_min_le]
    rcases Nat.lt_or_ge k 254 with h | h
    · exact .inr ⟨⟨k, h⟩, Finset.mem_univ _, by simp only [hlt, if_true]; exact le_rfl⟩
    · obtain rfl : k = 254 := by omega
      exact .inl (by rw [P_top])
  · rw [Finset.le_fold_min]
    refine ⟨le_top, fun i _ => ?_⟩
    split
    · rename_i h
      refine P_le ?_ (by omega)
      by_contra hc
      exact absurd (h.trans_le ((P_le (by omega : i.val + 1 ≤ k) (by omega)).trans hle)) (lt_irrefl _)
    · exact le_top

/-- One over a power of two is the power of two with the opposite exponent. -/
theorem div_P (k : ℕ) (h0 : 1 ≤ k) (h1 : k ≤ 252) : Ideal.div 1 (P (k + 1)) = P (253 - k) := by
  have hne : (2 : ℝ) ^ (((k + 1 : ℕ) : ℤ) - 127) ≠ 0 := by positivity
  rw [P_normal (by omega) (by omega), Ideal.div_coe hne, P_normal (by omega) (by omega), one_mul]
  congr 1
  rw [one_div, ← zpow_neg]
  congr 1
  push_cast [Nat.cast_sub (by omega : k ≤ 253)]
  ring

/-- THE SCALES AGREE, and so do the inverse scales: the kernel's search finds the least power of two above `v`. -/
theorem scale_eq (a v : EReal) (hv : 0 ≤ v) (ha : a = 0 → v = 0) : kScale a v = rScale v ∧ kInv a v = rInv (rScale v) := by
  obtain ⟨k, hk, hk255, hle, hlt⟩ := search_spec v hv
  unfold kScale kInv
  rw [hk]
  by_cases hend : k = 0 ∨ k = 255
  · rw [expo_end a k hend]
    have h1 : rScale v = 1 := by
      unfold rScale
      rw [if_neg]
      rintro ⟨h, h'⟩
      rcases hend with rfl | rfl
      · rcases hlt with h2 | h2
        · omega
        · exact absurd h (not_le.2 h2)
      · rw [P_top] at hle; exact absurd h' (not_lt.2 hle)
    have h2 : Ideal.ofBits .f32 (word (IntOp.addi 127#32 0#32)) = 1 := by
      rw [show word (IntOp.addi 127#32 0#32) = BitVec.ofNat 32 127 <<< 23 from by decide]; exact P_unit
    refine ⟨by rw [h1, h2], ?_⟩
    rw [show IntOp.subi 0#32 0#32 = 0#32 from by decide, h2, h1]
    unfold rInv
    rw [← P_unit, if_pos (P_lt (by norm_num) (by norm_num)), P_unit]
    rw [show (1 : EReal) = ((1 : ℝ) : EReal) from rfl, Ideal.div_coe one_ne_zero]; norm_num
  · have hlt' : v < P (k + 1) := by rcases hlt with h | h; · exact absurd (.inr h) hend
                                    · exact h
    have h0 : k ≠ 0 := fun h => hend (.inl h)
    have h255 : k < 255 := by omega
    have hane : a ≠ 0 := fun h => by
      have := ha h
      rw [this, ← P_zero] at hle
      exact absurd (P_lt (by omega : 0 < k) (by omega)) (not_lt.2 hle)
    rw [expo_mid a k h0 h255 hane, word_scale ⟨k, h255⟩, word_inv ⟨k, h255⟩]
    have hs : rScale v = P (k + 1) := by
      unfold rScale
      rw [if_pos ⟨(P_le (by omega) (by omega)).trans hle, hlt'.trans_le le_top⟩]
      exact fold_eq v k (by omega) (by omega) hle hlt'
    refine ⟨hs.symm, ?_⟩
    rw [hs]
    unfold rInv
    show P (253 - k) = _
    rcases Nat.lt_or_ge k 253 with h | h
    · rw [if_pos (P_lt (by omega) (by omega)), div_P k (by omega) (by omega)]
    · rw [if_neg (not_lt.2 (P_le (by omega) (by omega))), show 253 - k = 0 by omega, P_zero]

end Cert.Scale
-- ==== Proof.Value.Rows.lean ====
module

public import proofs.«01_k».proof.Proof.Value.Scale
public import Idealize.ShloMosaic.PureOps.Ideal.Laws

/-!
One row of activations: normalised, scaled and quantised, as plain formulas over the extended reals. The kernel's
blocks and the reference's whole arrays are both read as these.
-/

@[expose] public section

noncomputable section

namespace Cert.Rows

open Idealize.ShloMosaic

/-- The row `x` over its root mean square, times the gain. -/
def norm (x g : Fin 4096 → EReal) (i : Fin 4096) : EReal :=
  x i * Ideal.rsqrt (Ideal.div (∑ k, x k * x k) (Ideal.ofBits .f32 1166016512#32) + Ideal.ofBits .f32 897988541#32) * g i

/-- The row's greatest magnitude. -/
def amax (h : Fin 4096 → EReal) : EReal :=
  (Finset.univ : Finset (Fin 4096)).fold max (Ideal.ofBits .f32 4286578688#32) (fun k => max (h k) (-(h k)))

/-- The greatest magnitude over 448. -/
def bound (h : Fin 4096 → EReal) : EReal := amax h * Ideal.ofBits .f32 991054117#32

/-- The scale of the row `x` with gain `g`. -/
def scale (x g : Fin 4096 → EReal) : EReal := Scale.rScale (bound (norm x g))

/-- The row's code at `i`: the normalised entry times the inverse scale, clipped to the format's range. -/
def code (x g : Fin 4096 → EReal) (i : Fin 4096) : EReal :=
  min (Ideal.ofBits .f32 1138753536#32) (max (Ideal.ofBits .f32 3286237184#32) (norm x g i * Scale.rInv (scale x g)))

/-- A product with one 4096th is a division by 4096. -/
theorem mul_mean (s : EReal) : s * Ideal.ofBits .f32 964689920#32 = Ideal.div s (Ideal.ofBits .f32 1166016512#32) := by
  have h1 : Ideal.ofBits .f32 1166016512#32 = Scale.P 139 := rfl
  have h2 : Ideal.ofBits .f32 964689920#32 = Scale.P 115 := rfl
  rw [h1, h2, Scale.P_normal (by norm_num) (by norm_num), Scale.P_normal (by norm_num) (by norm_num), Ideal.div_coe (by positivity)]
  congr 2
  norm_num

/-- A magnitude is not negative. -/
theorem zero_le_mag (a : EReal) : 0 ≤ max a (-a) := by
  rcases le_total 0 a with h | h
  · exact h.trans (le_max_left _ _)
  · exact (EReal.neg_nonneg.2 h).trans (le_max_right _ _)

/-- The greatest magnitude is not negative. -/
theorem zero_le_amax (h : Fin 4096 → EReal) : 0 ≤ amax h := by
  unfold amax
  rw [Finset.le_fold_max]
  exact .inr ⟨0, Finset.mem_univ _, zero_le_mag _⟩

/-- Nor is the bound. -/
theorem zero_le_bound (h : Fin 4096 → EReal) : 0 ≤ bound h := by
  refine mul_nonneg (zero_le_amax h) ?_
  simp [Ideal.ofBits, Ideal.ieee, -EReal.coe_mul]

/-- The kernel's scale and inverse scale of a row are the reference's. -/
theorem kernel_scale (h : Fin 4096 → EReal) :
    Scale.kScale (amax h) (bound h) = Scale.rScale (bound h) ∧ Scale.kInv (amax h) (bound h) = Scale.rInv (Scale.rScale (bound h)) :=
  Scale.scale_eq _ _ (zero_le_bound h) fun h0 => by rw [bound, h0, zero_mul]

end Cert.Rows
-- ==== Proof.Value.Block.lean ====
module

public import proofs.«01_k».proof.Proof.KernelValue.Outs
public import proofs.«01_k».proof.Proof.Value.Rows
public import Idealize.ShloMosaic.Lib.Pipeline.ValueKit
public import Idealize.ShloMosaic.Lib.VecWindow

/-!
What the kernel's quantiser makes of one block of 32 rows, and what the eight blocks together leave: the codes, the
scales spread over 128 lanes, and the row of scales.
-/

@[expose] public section

set_option maxRecDepth 16384

noncomputable section

namespace Cert.KernelIdeal.Hand

open Cert Cert.KernelIdeal.Gen
open Idealize.ShloMosaic Idealize.ShloMosaic.TcCoe Idealize.ShloMosaic.Tactic

/-! ## One block -/

/-- The codes of the block `b`, with the gain `g`. -/
def blkCodes (g : Vec Ideal S1x4096 .f32) (b : Vec Ideal S32x4096 .bf16) : FVec Ideal S32x4096 .fp8e4m3 :=
  k0_pay25 (k0_pay17 (k0_pay5 g) b)
    (k0_pay22 (k0_pay18 (k0_pay5 g) b) (k0_pay19 (k0_pay5 g) b) (k0_pay20 (k0_pay5 g) b))
    (k0_pay23 (k0_pay19 (k0_pay5 g) b) (k0_pay20 (k0_pay5 g) b)) 0#32

/-- The scales of the block `b`, over 128 lanes. -/
def blkScale (g : Vec Ideal S1x4096 .f32) (b : Vec Ideal S32x4096 .bf16) : FVec Ideal S32x128 .f32 :=
  k0_pay27 (k0_pay26
    (k0_pay22 (k0_pay18 (k0_pay5 g) b) (k0_pay19 (k0_pay5 g) b) (k0_pay20 (k0_pay5 g) b))
    (k0_pay23 (k0_pay19 (k0_pay5 g) b) (k0_pay20 (k0_pay5 g) b)) 0#32)

section

variable (g : Vec Ideal S1x4096 .f32) (b : Vec Ideal S32x4096 .bf16) (r : Fin 32)

/-- A normalised entry of a block of rows. -/
theorem norm_apply (i : Fin 4096) :
    k0_pay17 (k0_pay5 g) b (ix2 r i) = Rows.norm (fun k => b (ix2 r k)) (fun k => g (ix2 0 k)) i := by
  unfold k0_pay17 k0_pay5 Rows.norm
  pointwise
  rw [Rows.mul_mean]

/-- The greatest magnitude of a block's row. -/
theorem amax_apply : k0_pay18 (k0_pay5 g) b (ix2 r 0) = Rows.amax (Rows.norm (fun k => b (ix2 r k)) (fun k => g (ix2 0 k))) := by
  unfold k0_pay18 Rows.amax
  pointwise
  simp only [norm_apply]
  rfl

/-- That magnitude over 448. -/
theorem bound_apply : k0_pay19 (k0_pay5 g) b (ix2 r 0) = Rows.bound (Rows.norm (fun k => b (ix2 r k)) (fun k => g (ix2 0 k))) := by
  unfold k0_pay19 Rows.bound
  pointwise
  rw [amax_apply]

/-- The kernel's exponent, of the row's greatest magnitude and bound. -/
theorem expo_apply (a v : FVec Ideal S32x1 .f32) (e : IVec S32x1 32) (he : e (ix2 r 0) = Scale.search3 (v (ix2 r 0))) :
    Scalar.select (k0_pay22 a v e (ix2 r 0)) 0#32 (k0_pay23 v e (ix2 r 0))
      = Scale.expo (a (ix2 r 0)) (Scale.search5 (v (ix2 r 0)) (Scale.search3 (v (ix2 r 0)))) := by
  rw [← he]
  rfl

/-- The block's codes, entry by entry. -/
theorem blkCodes_apply (i : Fin 4096) :
    blkCodes g b (ix2 r i) = Rows.code (fun k => b (ix2 r k)) (fun k => g (ix2 0 k)) i := by
  have h : blkCodes g b (ix2 r i) = min (Ideal.ofBits .f32 1138753536#32) (max (Ideal.ofBits .f32 3286237184#32)
      (k0_pay17 (k0_pay5 g) b (ix2 r i) * Scale.kInv (k0_pay18 (k0_pay5 g) b (ix2 r 0)) (k0_pay19 (k0_pay5 g) b (ix2 r 0)))) := by
    unfold blkCodes k0_pay25 k0_pay24 Scale.kInv
    rw [← expo_apply r _ _ (k0_pay20 (k0_pay5 g) b) rfl]
    pointwise
    rfl
  rw [h, norm_apply, amax_apply, bound_apply, (Rows.kernel_scale _).2]
  rfl

/-- The block's scales: the row's, in every lane. -/
theorem blkScale_apply (l : Fin 128) :
    blkScale g b (ix2 r l) = Rows.scale (fun k => b (ix2 r k)) (fun k => g (ix2 0 k)) := by
  have h : blkScale g b (ix2 r l) = Scale.kScale (k0_pay18 (k0_pay5 g) b (ix2 r 0)) (k0_pay19 (k0_pay5 g) b (ix2 r 0)) := by
    unfold blkScale k0_pay27 k0_pay26 k0_pay24 Scale.kScale
    rw [← expo_apply r _ _ (k0_pay20 (k0_pay5 g) b) rfl]
    pointwise
    rfl
  rw [h, amax_apply, bound_apply, (Rows.kernel_scale _).1]
  rfl

end

/-! ## The eight blocks -/

/-- The codes of all rows. -/
def codesK (X : Vec Ideal S256x4096 .bf16) (g : Vec Ideal S1x4096 .f32) : Vec Ideal S256x4096 .fp8e4m3 :=
  fun j => Rows.code (fun k => X (ix2 (j 0) k)) (fun k => g (ix2 0 k)) (j 1)

/-- The scales of all rows, over 128 lanes. -/
def scalesK (X : Vec Ideal S256x4096 .bf16) (g : Vec Ideal S1x4096 .f32) : Vec Ideal S256x128 .f32 :=
  fun j => Rows.scale (fun k => X (ix2 (j 0) k)) (fun k => g (ix2 0 k))

/-- A block of the array's rows, read at a row of the block, is the array's row. -/
theorem ld_row (X : Vec Ideal S256x4096 .bf16) (o : ℕ) (inb) (r : Fin 32) (p : Fin 256) (h : p.val = o + r.val) (k : Fin 4096) :
    (View.ld X (Rect.unit ![o, 0] ![32, 4096] inb) : Vec Ideal S32x4096 .bf16) (ix2 r k) = X (ix2 p k) :=
  View.ld_unit_apply_of X _ _ _ (ix2 r k) (ix2 p k) fun a => by
    fin_cases a
    · exact h
    · exact (Nat.zero_add _).symm

/-- The codes that the eight blocks store, each at its rows. -/
theorem blkCodes_ld (X : Vec Ideal S256x4096 .bf16) (g : Vec Ideal S1x4096 .f32) (o : ℕ) (inb) (x : S32x4096.Idx) (y : S256x4096.Idx)
    (h0 : (y 0).val = o + (x 0).val) (h1 : (y 1).val = (x 1).val) :
    blkCodes g (View.ld X (Rect.unit ![o, 0] ![32, 4096] inb)) x = codesK X g y := by
  obtain ⟨r, i, rfl⟩ : ∃ r i, x = ix2 r i := ⟨x 0, x 1, by funext a; fin_cases a <;> rfl⟩
  obtain ⟨p, q, rfl⟩ : ∃ p q, y = ix2 p q := ⟨y 0, y 1, by funext a; fin_cases a <;> rfl⟩
  obtain rfl : q = i := Fin.ext h1
  rw [blkCodes_apply]
  simp only [ld_row X o inb r p h0]
  rfl

/-- The scales of 32 rows, at their place among all rows. -/
theorem blkScale_ld (X : Vec Ideal S256x4096 .bf16) (g : Vec Ideal S1x4096 .f32) (o : ℕ) (inb) (x : S32x128.Idx) (y : S256x128.Idx)
    (h0 : (y 0).val = o + (x 0).val) :
    blkScale g (View.ld X (Rect.unit ![o, 0] ![32, 4096] inb)) x = scalesK X g y := by
  obtain ⟨r, l, rfl⟩ : ∃ r l, x = ix2 r l := ⟨x 0, x 1, by funext a; fin_cases a <;> rfl⟩
  rw [blkScale_apply]
  simp only [ld_row X o inb r (y 0) h0]
  rfl

/-- The eight stores of codes, last first. -/
def codesPieces (X : Vec Ideal S256x4096 .bf16) (g : Vec Ideal S1x4096 .f32) : List (View.Piece (Elt Ideal) S256x4096 .fp8e4m3) :=
  [⟨Rect.unit ![224, 0] S32x4096.size inb_S256x4096_S32x4096_224_0, blkCodes g (View.ld X (Rect.unit ![224, 0] S32x4096.size inb_S256x4096_S32x4096_224_0))⟩,
   ⟨Rect.unit ![192, 0] S32x4096.size inb_S256x4096_S32x4096_192_0, blkCodes g (View.ld X (Rect.unit ![192, 0] S32x4096.size inb_S256x4096_S32x4096_192_0))⟩,
   ⟨Rect.unit ![160, 0] S32x4096.size inb_S256x4096_S32x4096_160_0, blkCodes g (View.ld X (Rect.unit ![160, 0] S32x4096.size inb_S256x4096_S32x4096_160_0))⟩,
   ⟨Rect.unit ![128, 0] S32x4096.size inb_S256x4096_S32x4096_128_0, blkCodes g (View.ld X (Rect.unit ![128, 0] S32x4096.size inb_S256x4096_S32x4096_128_0))⟩,
   ⟨Rect.unit ![96, 0] S32x4096.size inb_S256x4096_S32x4096_96_0, blkCodes g (View.ld X (Rect.unit ![96, 0] S32x4096.size inb_S256x4096_S32x4096_96_0))⟩,
   ⟨Rect.unit ![64, 0] S32x4096.size inb_S256x4096_S32x4096_64_0, blkCodes g (View.ld X (Rect.unit ![64, 0] S32x4096.size inb_S256x4096_S32x4096_64_0))⟩,
   ⟨Rect.unit ![32, 0] S32x4096.size inb_S256x4096_S32x4096_32_0, blkCodes g (View.ld X (Rect.unit ![32, 0] S32x4096.size inb_S256x4096_S32x4096_32_0))⟩,
   ⟨Rect.unit ![0, 0] S32x4096.size inb_S256x4096_S32x4096_0_0, blkCodes g (View.ld X (Rect.unit ![0, 0] S32x4096.size inb_S256x4096_S32x4096_0_0))⟩]

/-- Together they leave the codes of all rows. -/
theorem canon_codes (X : Vec Ideal S256x4096 .bf16) (g : Vec Ideal S1x4096 .f32) : View.canon (codesPieces X g) = codesK X g := by
  funext y
  unfold codesPieces
  canon_tiles x h
  all_goals exact blkCodes_ld X g _ _ x y (by omega) (by omega)

/-- The eight stores of scales, last first. -/
def scalesPieces (X : Vec Ideal S256x4096 .bf16) (g : Vec Ideal S1x4096 .f32) : List (View.Piece (Elt Ideal) S256x128 .f32) :=
  [⟨Rect.unit ![224, 0] S32x128.size inb_S256x128_S32x128_224_0, blkScale g (View.ld X (Rect.unit ![224, 0] S32x4096.size inb_S256x4096_S32x4096_224_0))⟩,
   ⟨Rect.unit ![192, 0] S32x128.size inb_S256x128_S32x128_192_0, blkScale g (View.ld X (Rect.unit ![192, 0] S32x4096.size inb_S256x4096_S32x4096_192_0))⟩,
   ⟨Rect.unit ![160, 0] S32x128.size inb_S256x128_S32x128_160_0, blkScale g (View.ld X (Rect.unit ![160, 0] S32x4096.size inb_S256x4096_S32x4096_160_0))⟩,
   ⟨Rect.unit ![128, 0] S32x128.size inb_S256x128_S32x128_128_0, blkScale g (View.ld X (Rect.unit ![128, 0] S32x4096.size inb_S256x4096_S32x4096_128_0))⟩,
   ⟨Rect.unit ![96, 0] S32x128.size inb_S256x128_S32x128_96_0, blkScale g (View.ld X (Rect.unit ![96, 0] S32x4096.size inb_S256x4096_S32x4096_96_0))⟩,
   ⟨Rect.unit ![64, 0] S32x128.size inb_S256x128_S32x128_64_0, blkScale g (View.ld X (Rect.unit ![64, 0] S32x4096.size inb_S256x4096_S32x4096_64_0))⟩,
   ⟨Rect.unit ![32, 0] S32x128.size inb_S256x128_S32x128_32_0, blkScale g (View.ld X (Rect.unit ![32, 0] S32x4096.size inb_S256x4096_S32x4096_32_0))⟩,
   ⟨Rect.unit ![0, 0] S32x128.size inb_S256x128_S32x128_0_0, blkScale g (View.ld X (Rect.unit ![0, 0] S32x4096.size inb_S256x4096_S32x4096_0_0))⟩]

/-- Together they leave the scales of all rows. -/
theorem canon_scales (X : Vec Ideal S256x4096 .bf16) (g : Vec Ideal S1x4096 .f32) : View.canon (scalesPieces X g) = scalesK X g := by
  funext y
  unfold scalesPieces
  canon_tiles x h
  all_goals exact blkScale_ld X g _ _ x y (by omega)

/-- A load of a whole buffer after stores into it reads what the stores leave. -/
theorem readCov_whole {sig : RefSig} {κ : Kind} {sp : Space} {s : Shape} {e : EltTy} (v : View sig κ sp s e)
    (L : List (View.Piece (Elt Ideal) s e)) {off : Fin s.rank → ℕ} (inb : ∀ a, off a + s.size a ≤ s.size a) :
    v.readCov L (Rect.unit off s.size inb).toLoadRect = View.canon L := by
  rw [View.readCov_eq_canon']
  exact funext fun j => congrArg (View.canon L) (Rect.emb_unit_full inb j)

/-! ## The rotary tables -/

/-- The table of cosines: position times frequency, the 64 frequencies twice over. -/
def cosK (pos : Vec Ideal S1x256 .i32) (f : Fin 64 → EReal) : Vec Ideal S256x128 .f32 :=
  fun j => Ideal.cos (FloatOps.sitofp (F := Ideal) .f32 (pos (ix2 0 (j 0))) * f ⟨(j 1).val % 64, Nat.mod_lt _ (by norm_num)⟩)

/-- The table of sines: their negatives in the first half. -/
def sinK (pos : Vec Ideal S1x256 .i32) (f : Fin 64 → EReal) : Vec Ideal S256x128 .f32 :=
  fun j => if (j 1).val < 64 then 0 - Ideal.sin (FloatOps.sitofp (F := Ideal) .f32 (pos (ix2 0 (j 0))) * f ⟨(j 1).val % 64, Nat.mod_lt _ (by norm_num)⟩)
    else Ideal.sin (FloatOps.sitofp (F := Ideal) .f32 (pos (ix2 0 (j 0))) * f ⟨(j 1).val % 64, Nat.mod_lt _ (by norm_num)⟩)

section

variable (pos : Vec Ideal S1x256 .i32) (fb : Vec Ideal S64x128 .f32) (f : Fin 64 → EReal) (hf : ∀ a b, fb (ix2 a b) = f a)

include hf

/-- The cosines of the first 128 rows. -/
theorem cos_lo (x : S128x128.Idx) (y : S256x128.Idx) (h0 : (y 0).val = (x 0).val) (h1 : (y 1).val = (x 1).val) :
    k0_pay97 pos fb x = cosK pos f y := by
  obtain ⟨r, i, rfl⟩ : ∃ r i, x = ix2 r i := ⟨x 0, x 1, by funext a; fin_cases a <;> rfl⟩
  obtain ⟨p, q, rfl⟩ : ∃ p q, y = ix2 p q := ⟨y 0, y 1, by funext a; fin_cases a <;> rfl⟩
  unfold k0_pay97 k0_pay96 k0_pay95 cosK
  pointwise
  simp only [hf]
  obtain rfl : q = i := Fin.ext h1
  have hp : (⟨r.val, by omega⟩ : Fin 256) = p := Fin.ext h0.symm
  have hq := q.isLt
  have hm : q.val % 64 = if q.val < 64 then q.val else q.val - 64 := by split <;> omega
  split_ifs at hm ⊢ with hlt <;> simp only [hm, hp]

/-- The cosines of the last 128 rows. -/
theorem cos_hi (x : S128x128.Idx) (y : S256x128.Idx) (h0 : (y 0).val = 128 + (x 0).val) (h1 : (y 1).val = (x 1).val) :
    k0_pay101 pos fb x = cosK pos f y := by
  obtain ⟨r, i, rfl⟩ : ∃ r i, x = ix2 r i := ⟨x 0, x 1, by funext a; fin_cases a <;> rfl⟩
  obtain ⟨p, q, rfl⟩ : ∃ p q, y = ix2 p q := ⟨y 0, y 1, by funext a; fin_cases a <;> rfl⟩
  unfold k0_pay101 k0_pay99 k0_pay95 cosK
  pointwise
  simp only [hf]
  obtain rfl : q = i := Fin.ext h1
  have hp : (⟨128 + r.val, by omega⟩ : Fin 256) = p := Fin.ext h0.symm
  have hq := q.isLt
  have hm : q.val % 64 = if q.val < 64 then q.val else q.val - 64 := by split <;> omega
  split_ifs at hm ⊢ with hlt <;> simp only [hm, hp]

/-- The signed sines of the first 128 rows. -/
theorem sin_lo (x : S128x128.Idx) (y : S256x128.Idx) (h0 : (y 0).val = (x 0).val) (h1 : (y 1).val = (x 1).val) :
    k0_pay98 pos fb x = sinK pos f y := by
  obtain ⟨r, i, rfl⟩ : ∃ r i, x = ix2 r i := ⟨x 0, x 1, by funext a; fin_cases a <;> rfl⟩
  obtain ⟨p, q, rfl⟩ : ∃ p q, y = ix2 p q := ⟨y 0, y 1, by funext a; fin_cases a <;> rfl⟩
  unfold k0_pay98 k0_pay96 k0_pay95 sinK
  pointwise
  simp only [hf]
  obtain rfl : q = i := Fin.ext h1
  have hp : (⟨r.val, by omega⟩ : Fin 256) = p := Fin.ext h0.symm
  have hq := q.isLt
  have hm : q.val % 64 = if q.val < 64 then q.val else q.val - 64 := by split <;> omega
  split_ifs at hm ⊢ with hlt <;> simp only [hm, hp]

/-- The signed sines of the last 128 rows. -/
theorem sin_hi (x : S128x128.Idx) (y : S256x128.Idx) (h0 : (y 0).val = 128 + (x 0).val) (h1 : (y 1).val = (x 1).val) :
    k0_pay1 (k0_pay100 pos fb) x = sinK pos f y := by
  obtain ⟨r, i, rfl⟩ : ∃ r i, x = ix2 r i := ⟨x 0, x 1, by funext a; fin_cases a <;> rfl⟩
  obtain ⟨p, q, rfl⟩ : ∃ p q, y = ix2 p q := ⟨y 0, y 1, by funext a; fin_cases a <;> rfl⟩
  unfold k0_pay1 k0_pay100 k0_pay99 k0_pay95 sinK
  pointwise
  simp only [hf]
  obtain rfl : q = i := Fin.ext h1
  have hp : (⟨128 + r.val, by omega⟩ : Fin 256) = p := Fin.ext h0.symm
  have hq := q.isLt
  have hm : q.val % 64 = if q.val < 64 then q.val else q.val - 64 := by split <;> omega
  split_ifs at hm ⊢ with hlt <;> simp only [hm, hp]

/-- The two stores of cosines, last first. -/
def cosPieces (pos : Vec Ideal S1x256 .i32) (fb : Vec Ideal S64x128 .f32) : List (View.Piece (Elt Ideal) S256x128 .f32) :=
  [⟨Rect.unit ![128, 0] S128x128.size inb_S256x128_S128x128_128_0, k0_pay101 pos fb⟩,
   ⟨Rect.unit ![0, 0] S128x128.size inb_S256x128_S128x128_0_0, k0_pay97 pos fb⟩]

/-- Together the two stores leave the table of cosines. -/
theorem canon_cos : View.canon (cosPieces pos fb) = cosK pos f := by
  funext y
  unfold cosPieces
  canon_tiles x h
  · exact cos_hi pos fb f hf x y (by omega) (by omega)
  · exact cos_lo pos fb f hf x y (by omega) (by omega)

/-- The two stores of sines, last first. -/
def sinPieces (pos : Vec Ideal S1x256 .i32) (fb : Vec Ideal S64x128 .f32) : List (View.Piece (Elt Ideal) S256x128 .f32) :=
  [⟨Rect.unit ![128, 0] S128x128.size inb_S256x128_S128x128_128_0, k0_pay1 (k0_pay100 pos fb)⟩,
   ⟨Rect.unit ![0, 0] S128x128.size inb_S256x128_S128x128_0_0, k0_pay98 pos fb⟩]

/-- Together the two stores leave the table of signed sines. -/
theorem canon_sin : View.canon (sinPieces pos fb) = sinK pos f := by
  funext y
  unfold sinPieces
  canon_tiles x h
  · exact sin_hi pos fb f hf x y (by omega) (by omega)
  · exact sin_lo pos fb f hf x y (by omega) (by omega)

end

variable (m : (ℓ : Loc nD τ sig) → Buf (Elt Ideal) ℓ) (c : Dev nD)

set_option maxHeartbeats 2000000 in
/-- The first point leaves the codes of all rows. -/
theorem stepA_codes (t : Fin cfg0.N) (h0 h1 h2 h3) : (stepA m c t h0 h1 h2 h3).2.2.2.1 = codesK (iblk m c 0 t) (iblk m c 1 t) := by
  unfold stepA
  frame_out
  exact canon_codes _ _

set_option maxHeartbeats 2000000 in
/-- The first point leaves the row of scales. -/
theorem stepA_row (t : Fin cfg0.N) (h0 h1 h2 h3) : (stepA m c t h0 h1 h2 h3).2.2.2.2.1 = k0_pay94 (scalesK (iblk m c 0 t) (iblk m c 1 t)) := by
  unfold stepA
  frame_out
  rw [← canon_scales]
  exact congrArg k0_pay94 (readCov_whole _ (scalesPieces (iblk m c 0 t) (iblk m c 1 t)) _)

set_option maxHeartbeats 2000000 in
/-- The first point leaves the scales of all rows, over 128 lanes. -/
theorem stepA_scales (t : Fin cfg0.N) (h0 h1 h2 h3) : (stepA m c t h0 h1 h2 h3).2.2.2.2.2.1 = scalesK (iblk m c 0 t) (iblk m c 1 t) := by
  unfold stepA
  frame_out
  exact canon_scales _ _

end Cert.KernelIdeal.Hand
-- ==== Proof.Value.Heads.lean ====
module

public import proofs.«01_k».proof.Proof.Value.Rows

/-!
The heads as plain mathematics over the extended reals: a row of the product, scaled back, and its rotary embedding, in
the form with one table of signed sines and in the form with a subtraction in the first half.
-/

@[expose] public section

noncomputable section

namespace Cert.Heads

open Idealize.ShloMosaic

/-- Column `d` of head `H` among the 48 heads of the product. -/
def col (H : Fin 48) (d : Fin 128) : Fin 6144 := ⟨128 * H.val + d.val, by omega⟩

/-- The lane 64 away, round the end. -/
def turn (d : Fin 128) : Fin 128 := ⟨(d.val + 64) % 128, Nat.mod_lt _ (by norm_num)⟩

/-- The frequency of lane `d`: the 64 frequencies twice over. -/
def half (d : Fin 128) : Fin 64 := ⟨d.val % 64, Nat.mod_lt _ (by norm_num)⟩

variable (x : Fin 256 → Fin 4096 → EReal) (g : Fin 4096 → EReal) (w : Fin 4096 → Fin 6144 → EReal) (ws : Fin 6144 → EReal)
variable (p : Fin 256 → EReal) (f : Fin 64 → EReal)

/-- The product of the codes of row `r` and column `n` of the weight, scaled back. -/
def proj (r : Fin 256) (n : Fin 6144) : EReal :=
  (∑ k : Fin 4096, Rows.code (x r) g k * w k n) * Rows.scale (x r) g * ws n

/-- Lane `d` of head `H` with the rotary embedding. -/
def rope (r : Fin 256) (H : Fin 48) (d : Fin 128) : EReal :=
  proj x g w ws r (col H d) * Ideal.cos (p r * f (half d))
    + proj x g w ws r (col H (turn d)) * (if d.val < 64 then 0 - Ideal.sin (p r * f (half d)) else Ideal.sin (p r * f (half d)))

/-- In the first half the embedding subtracts. -/
theorem rope_lo (r : Fin 256) (H : Fin 48) (d : Fin 128) (h : d.val < 64) :
    rope x g w ws p f r H d = proj x g w ws r ⟨128 * H.val + d.val, by omega⟩ * Ideal.cos (p r * f ⟨d.val, h⟩)
      - proj x g w ws r ⟨128 * H.val + (64 + d.val), by omega⟩ * Ideal.sin (p r * f ⟨d.val, h⟩) := by
  have ht : col H (turn d) = ⟨128 * H.val + (64 + d.val), by omega⟩ := Fin.ext (by unfold col turn; simp only; omega)
  have hh : half d = ⟨d.val, h⟩ := Fin.ext (by unfold half; simp only; omega)
  unfold rope
  rw [if_pos h, ht, hh, zero_sub, mul_neg, ← sub_eq_add_neg]
  rfl

/-- In the second half it adds. -/
theorem rope_hi (r : Fin 256) (H : Fin 48) (d : Fin 128) (h : ¬ d.val < 64) :
    rope x g w ws p f r H d = proj x g w ws r ⟨128 * H.val + (64 + (d.val - 64)), by omega⟩ * Ideal.cos (p r * f ⟨d.val - 64, by omega⟩)
      + proj x g w ws r ⟨128 * H.val + (d.val - 64), by omega⟩ * Ideal.sin (p r * f ⟨d.val - 64, by omega⟩) := by
  have ht : col H (turn d) = ⟨128 * H.val + (d.val - 64), by omega⟩ := Fin.ext (by unfold col turn; simp only; omega)
  have hc : col H d = ⟨128 * H.val + (64 + (d.val - 64)), by omega⟩ := Fin.ext (by unfold col; simp only; omega)
  have hh : half d = ⟨d.val - 64, by omega⟩ := Fin.ext (by unfold half; simp only; omega)
  unfold rope
  rw [if_neg h, ht, hc, hh]

end Cert.Heads
-- ==== Proof.Value.Tiles.lean ====
module

public import proofs.«01_k».proof.Proof.Value.Block
public import proofs.«01_k».proof.Proof.Value.Heads
public import Idealize.ShloMosaic.Lib.Bf16Pair
public import Idealize.ShloMosaic.Lib.Pipeline.ReadBack

/-!
What one point stores of its eight heads: each of four stores holds two heads, side by side in a product of 256 columns;
the four together are the projection of all rows onto the point's 1024 columns, with the rotary embedding or without.
-/

@[expose] public section

set_option maxRecDepth 16384

noncomputable section

namespace Cert.KernelIdeal.Hand

open Cert Cert.KernelIdeal.Gen
open Idealize.ShloMosaic Idealize.ShloMosaic.TcCoe Idealize.ShloMosaic.Tactic

section

variable (C : Vec Ideal S256x4096 .fp8e4m3) (S c s : Vec Ideal S256x128 .f32) (W : Vec Ideal S4096x1024 .fp8e4m3) (U : Vec Ideal S1x1024 .f32)

/-- Row `r` of the codes times column `128 h + d`, with the scale of the row and the column's. -/
def projK (r : Fin 256) (h : Fin 8) (d : Fin 128) : EReal :=
  (∑ k : Fin 4096, C (ix2 r k) * W (ix2 k ⟨128 * h.val + d.val, by omega⟩)) * S (ix2 r d) * U (ix2 0 ⟨128 * h.val + d.val, by omega⟩)

/-- The point's eight heads with the rotary embedding. -/
def ropeK : Vec Ideal S256x8x128 .bf16 := fun j =>
  projK C S W U (j 0) (j 1) (j 2) * c (ix2 (j 0) (j 2)) + projK C S W U (j 0) (j 1) (Heads.turn (j 2)) * s (ix2 (j 0) (j 2))

/-- The point's eight heads without it. -/
def plainK : Vec Ideal S256x8x128 .bf16 := fun j => projK C S W U (j 0) (j 1) (j 2)

/-- An entry of the product of a pair of heads is one of the projection. -/
theorem projK_of (r : Fin 256) (h : Fin 8) (d : Fin 128) (n n' : Fin 1024) (hn : n.val = 128 * h.val + d.val) (hn' : n'.val = 128 * h.val + d.val) :
    (∑ k : Fin 4096, C (ix2 r k) * W (ix2 k n)) * S (ix2 r d) * U (ix2 0 n') = projK C S W U r h d := by
  obtain rfl : n = n' := Fin.ext (hn.trans hn'.symm)
  have e : (⟨128 * h.val + d.val, by omega⟩ : Fin 1024) = n := Fin.ext hn.symm
  unfold projK
  simp only [e]

/-- One store of two heads with the rotary embedding. -/
theorem ropeTile (a o p : ℕ) (inbW inbU inbU') (x : S256x2x128.Idx) (y : S256x8x128.Idx) (ho : o = 128 * a) (hp : p = o + 128)
    (h0 : (y 0).val = (x 0).val) (h1 : (y 1).val = a + (x 1).val) (h2 : (y 2).val = (x 2).val) :
    k0_pay103 C S (View.ld W (Rect.unit ![0, o] ![4096, 256] inbW)) (View.ld U (Rect.unit ![0, o] ![1, 128] inbU)) c s
      (View.ld U (Rect.unit ![0, p] ![1, 128] inbU')) c s x = ropeK C S c s W U y := by
  obtain ⟨r, e, d, rfl⟩ : ∃ r e d, x = ix3 r e d := ⟨x 0, x 1, x 2, by funext a; fin_cases a <;> rfl⟩
  obtain ⟨r', h, d', rfl⟩ : ∃ r h d, y = ix3 r h d := ⟨y 0, y 1, y 2, by funext a; fin_cases a <;> rfl⟩
  obtain rfl : r' = r := Fin.ext h0
  obtain rfl : d' = d := Fin.ext h2
  have he : h.val = a + e.val := h1
  unfold k0_pay103 k0_pay102
  pointwise
  have ht : (⟨(d'.val + 128 - 64) % 128, by omega⟩ : Fin 128) = Heads.turn d' := Fin.ext (by unfold Heads.turn; simp only; omega)
  have htv : (d'.val + 128 - 64) % 128 = (Heads.turn d').val := congrArg Fin.val ht
  simp only [ht]
  split_ifs with hz
  · exact congrArg₂ (· + ·)
      (congrArg (· * c (ix2 r' d')) (projK_of C S W U r' h d' _ _ (by simp only; omega) (by simp only; omega)))
      (congrArg (· * s (ix2 r' d')) (projK_of C S W U r' h (Heads.turn d') _ _ (by simp only [htv]; omega) (by simp only [htv]; omega)))
  · exact congrArg₂ (· + ·)
      (congrArg (· * c (ix2 r' d')) (projK_of C S W U r' h d' _ _ (by simp only; omega) (by simp only; omega)))
      (congrArg (· * s (ix2 r' d')) (projK_of C S W U r' h (Heads.turn d') _ _ (by simp only [htv]; omega) (by simp only [htv]; omega)))

/-- One store of two heads without it. -/
theorem plainTile (a o p : ℕ) (inbW inbU inbU') (x : S256x2x128.Idx) (y : S256x8x128.Idx) (ho : o = 128 * a) (hp : p = o + 128)
    (h0 : (y 0).val = (x 0).val) (h1 : (y 1).val = a + (x 1).val) (h2 : (y 2).val = (x 2).val) :
    k0_pay121 C S (View.ld W (Rect.unit ![0, o] ![4096, 256] inbW)) (View.ld U (Rect.unit ![0, o] ![1, 128] inbU))
      (View.ld U (Rect.unit ![0, p] ![1, 128] inbU')) x = plainK C S W U y := by
  obtain ⟨r, e, d, rfl⟩ : ∃ r e d, x = ix3 r e d := ⟨x 0, x 1, x 2, by funext a; fin_cases a <;> rfl⟩
  obtain ⟨r', h, d', rfl⟩ : ∃ r h d, y = ix3 r h d := ⟨y 0, y 1, y 2, by funext a; fin_cases a <;> rfl⟩
  obtain rfl : r' = r := Fin.ext h0
  obtain rfl : d' = d := Fin.ext h2
  have he : h.val = a + e.val := h1
  unfold k0_pay121 k0_pay120
  pointwise
  split_ifs with hz
  · exact projK_of C S W U r' h d' _ _ (by simp only; omega) (by simp only; omega)
  · exact projK_of C S W U r' h d' _ _ (by simp only; omega) (by simp only; omega)

/-- The four stores of a point of the query or key heads, last first. -/
def ropePieces : List (View.Piece (Elt Ideal) S256x8x128 .bf16) :=
  [⟨Rect.unit ![0, 6, 0] S256x2x128.size inb_S256x8x128_S256x2x128_0_6_0,
      k0_pay103 C S (View.ld W (Rect.unit ![0, 768] S4096x256.size inb_S4096x1024_S4096x256_0_768)) (View.ld U (Rect.unit ![0, 768] S1x128.size inb_S1x1024_S1x128_0_768)) c s
        (View.ld U (Rect.unit ![0, 896] S1x128.size inb_S1x1024_S1x128_0_896)) c s⟩,
   ⟨Rect.unit ![0, 4, 0] S256x2x128.size inb_S256x8x128_S256x2x128_0_4_0,
      k0_pay103 C S (View.ld W (Rect.unit ![0, 512] S4096x256.size inb_S4096x1024_S4096x256_0_512)) (View.ld U (Rect.unit ![0, 512] S1x128.size inb_S1x1024_S1x128_0_512)) c s
        (View.ld U (Rect.unit ![0, 640] S1x128.size inb_S1x1024_S1x128_0_640)) c s⟩,
   ⟨Rect.unit ![0, 2, 0] S256x2x128.size inb_S256x8x128_S256x2x128_0_2_0,
      k0_pay103 C S (View.ld W (Rect.unit ![0, 256] S4096x256.size inb_S4096x1024_S4096x256_0_256)) (View.ld U (Rect.unit ![0, 256] S1x128.size inb_S1x1024_S1x128_0_256)) c s
        (View.ld U (Rect.unit ![0, 384] S1x128.size inb_S1x1024_S1x128_0_384)) c s⟩,
   ⟨Rect.unit ![0, 0, 0] S256x2x128.size inb_S256x8x128_S256x2x128_0_0_0,
      k0_pay103 C S (View.ld W (Rect.unit ![0, 0] S4096x256.size inb_S4096x1024_S4096x256_0_0)) (View.ld U (Rect.unit ![0, 0] S1x128.size inb_S1x1024_S1x128_0_0)) c s
        (View.ld U (Rect.unit ![0, 128] S1x128.size inb_S1x1024_S1x128_0_128)) c s⟩]

/-- Together they leave the point's eight heads. -/
theorem canon_rope : View.canon (ropePieces C S c s W U) = ropeK C S c s W U := by
  funext y
  unfold ropePieces
  canon_tiles x h
  · exact ropeTile C S c s W U 6 768 896 _ _ _ x y rfl rfl (by omega) (by omega) (by omega)
  · exact ropeTile C S c s W U 4 512 640 _ _ _ x y rfl rfl (by omega) (by omega) (by omega)
  · exact ropeTile C S c s W U 2 256 384 _ _ _ x y rfl rfl (by omega) (by omega) (by omega)
  · exact ropeTile C S c s W U 0 0 128 _ _ _ x y rfl rfl (by omega) (by omega) (by omega)

/-- The four stores of the point of the value heads, last first. -/
def plainPieces : List (View.Piece (Elt Ideal) S256x8x128 .bf16) :=
  [⟨Rect.unit ![0, 6, 0] S256x2x128.size inb_S256x8x128_S256x2x128_0_6_0,
      k0_pay121 C S (View.ld W (Rect.unit ![0, 768] S4096x256.size inb_S4096x1024_S4096x256_0_768)) (View.ld U (Rect.unit ![0, 768] S1x128.size inb_S1x1024_S1x128_0_768))
        (View.ld U (Rect.unit ![0, 896] S1x128.size inb_S1x1024_S1x128_0_896))⟩,
   ⟨Rect.unit ![0, 4, 0] S256x2x128.size inb_S256x8x128_S256x2x128_0_4_0,
      k0_pay121 C S (View.ld W (Rect.unit ![0, 512] S4096x256.size inb_S4096x1024_S4096x256_0_512)) (View.ld U (Rect.unit ![0, 512] S1x128.size inb_S1x1024_S1x128_0_512))
        (View.ld U (Rect.unit ![0, 640] S1x128.size inb_S1x1024_S1x128_0_640))⟩,
   ⟨Rect.unit ![0, 2, 0] S256x2x128.size inb_S256x8x128_S256x2x128_0_2_0,
      k0_pay121 C S (View.ld W (Rect.unit ![0, 256] S4096x256.size inb_S4096x1024_S4096x256_0_256)) (View.ld U (Rect.unit ![0, 256] S1x128.size inb_S1x1024_S1x128_0_256))
        (View.ld U (Rect.unit ![0, 384] S1x128.size inb_S1x1024_S1x128_0_384))⟩,
   ⟨Rect.unit ![0, 0, 0] S256x2x128.size inb_S256x8x128_S256x2x128_0_0_0,
      k0_pay121 C S (View.ld W (Rect.unit ![0, 0] S4096x256.size inb_S4096x1024_S4096x256_0_0)) (View.ld U (Rect.unit ![0, 0] S1x128.size inb_S1x1024_S1x128_0_0))
        (View.ld U (Rect.unit ![0, 128] S1x128.size inb_S1x1024_S1x128_0_128))⟩]

/-- Together they leave the point's eight heads. -/
theorem canon_plain : View.canon (plainPieces C S W U) = plainK C S W U := by
  funext y
  unfold plainPieces
  canon_tiles x h
  · exact plainTile C S W U 6 768 896 _ _ _ x y rfl rfl (by omega) (by omega) (by omega)
  · exact plainTile C S W U 4 512 640 _ _ _ x y rfl rfl (by omega) (by omega) (by omega)
  · exact plainTile C S W U 2 256 384 _ _ _ x y rfl rfl (by omega) (by omega) (by omega)
  · exact plainTile C S W U 0 0 128 _ _ _ x y rfl rfl (by omega) (by omega) (by omega)

end

/-! ## The points -/

variable (m : (ℓ : Loc nD τ sig) → Buf (Elt Ideal) ℓ) (c : Dev nD)

set_option maxHeartbeats 4000000 in
/-- The first point leaves the table of cosines. -/
theorem stepA_cos (f : Fin 64 → EReal) (t : Fin cfg0.N) (hf : ∀ a b, (iblk m c 5 t : Vec Ideal S64x128 .f32) (ix2 a b) = f a) (h0 h1 h2 h3) :
    (stepA m c t h0 h1 h2 h3).2.2.2.2.2.2.1 = cosK (iblk m c 4 t) f := by
  unfold stepA
  frame_out
  exact canon_cos _ _ f hf

set_option maxHeartbeats 4000000 in
/-- The first point leaves the table of sines. -/
theorem stepA_sin (f : Fin 64 → EReal) (t : Fin cfg0.N) (hf : ∀ a b, (iblk m c 5 t : Vec Ideal S64x128 .f32) (ix2 a b) = f a) (h0 h1 h2 h3) :
    (stepA m c t h0 h1 h2 h3).2.2.2.2.2.2.2 = sinK (iblk m c 4 t) f := by
  unfold stepA
  frame_out
  exact canon_sin _ _ f hf

set_option maxHeartbeats 4000000 in
/-- The first point leaves the first eight query heads. -/
theorem stepA_q (f : Fin 64 → EReal) (t : Fin cfg0.N) (hf : ∀ a b, (iblk m c 5 t : Vec Ideal S64x128 .f32) (ix2 a b) = f a) (h0 h1 h2 h3) :
    (stepA m c t h0 h1 h2 h3).1
      = ropeK (codesK (iblk m c 0 t) (iblk m c 1 t)) (scalesK (iblk m c 0 t) (iblk m c 1 t)) (cosK (iblk m c 4 t) f) (sinK (iblk m c 4 t) f)
          (iblk m c 2 t) (iblk m c 3 t) := by
  unfold stepA
  frame_out
  have hC := (readCov_whole (ms0_9 t).view (codesPieces (iblk m c 0 t) (iblk m c 1 t)) (off := ![0, 0]) inb_S256x4096_S256x4096_0_0).trans (canon_codes _ _)
  have hS := (readCov_whole (View.whole cc0_scratch0) (scalesPieces (iblk m c 0 t) (iblk m c 1 t)) (off := ![0, 0]) inb_S256x128_S256x128_0_0).trans (canon_scales _ _)
  have hc := (readCov_whole (View.whole cc0_scratch1) (cosPieces (iblk m c 4 t) (iblk m c 5 t)) (off := ![0, 0]) inb_S256x128_S256x128_0_0).trans (canon_cos _ _ f hf)
  have hs := (readCov_whole (View.whole cc0_scratch2) (sinPieces (iblk m c 4 t) (iblk m c 5 t)) (off := ![0, 0]) inb_S256x128_S256x128_0_0).trans (canon_sin _ _ f hf)
  rw [← canon_rope, ← hC, ← hS, ← hc, ← hs]
  exact rfl

set_option maxHeartbeats 4000000 in
/-- Each later query point leaves its eight heads. -/
theorem stepB_q (t : Fin cfg0.N) (h0 h1 h2 h3) (p : Step Ideal) :
    (stepB m c t h0 h1 h2 h3 p).1 = ropeK p.2.2.2.1 p.2.2.2.2.2.1 p.2.2.2.2.2.2.1 p.2.2.2.2.2.2.2 (iblk m c 2 t) (iblk m c 3 t) := by
  unfold stepB
  frame_out
  simp only [read_unread_whole]
  exact canon_rope _ _ _ _ _ _

set_option maxHeartbeats 4000000 in
/-- The fifth point leaves the key heads. -/
theorem stepC_k (t : Fin cfg0.N) (h0 h1 h2 h3) (p : Step Ideal) :
    (stepC m c t h0 h1 h2 h3 p).2.1 = ropeK p.2.2.2.1 p.2.2.2.2.2.1 p.2.2.2.2.2.2.1 p.2.2.2.2.2.2.2 (iblk m c 2 t) (iblk m c 3 t) := by
  unfold stepC
  frame_out
  simp only [read_unread_whole]
  exact canon_rope _ _ _ _ _ _

set_option maxHeartbeats 4000000 in
/-- The last point leaves the value heads. -/
theorem stepD_v (t : Fin cfg0.N) (h0 h1 h2 h3) (p : Step Ideal) :
    (stepD m c t h0 h1 h2 h3 p).2.2.1 = plainK p.2.2.2.1 p.2.2.2.2.2.1 (iblk m c 2 t) (iblk m c 3 t) := by
  unfold stepD
  frame_out
  simp only [read_unread_whole]
  exact canon_plain _ _ _ _

end Cert.KernelIdeal.Hand
-- ==== Proof.Value.Inputs.lean ====
module

public import proofs.«01_k».proof.Proof.KernelValue.Outs
public import Idealize.ShloMosaic.Lib.Pipeline.ValueKit
public import Idealize.ShloMosaic.Lib.StableHlo.Run

/-!
What each input window of the kernel holds at each point, entry by entry, in terms of the arguments.
-/

@[expose] public section

noncomputable section

namespace Cert.KernelIdeal.Hand

open Cert Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (c : Dev nD)

/-- The activations, as launched. -/
abbrev argX : Vec Ideal S256x1x4096 .bf16 := m ((c.tc : Thread nD τ).loc main_arg0)
/-- The gain. -/
abbrev argG : Vec Ideal S4096 .f32 := m ((c.tc : Thread nD τ).loc main_arg1)
/-- The weight's codes. -/
abbrev argW : Vec Ideal S4096x6144 .fp8e4m3 := m ((c.tc : Thread nD τ).loc main_arg2)
/-- The weight's scales. -/
abbrev argS : Vec Ideal S6144 .f32 := m ((c.tc : Thread nD τ).loc main_arg3)
/-- The positions. -/
abbrev argP : Vec Ideal S256x1 .i32 := m ((c.tc : Thread nD τ).loc main_arg4)
/-- The rotary frequencies, constants of the program. -/
def freqK (i : Fin 64) : EReal := Ideal.ofBits .f32 (lit0 i)

/-- The region finds the activations as a matrix. -/
theorem V_x : V m c main_v1 = shapeCast S256x4096 (argX m c) shapeCasts_S256x1x4096_S256x4096 := by
  simp only [V, hostOps0, List.flatten_cons, List.flatten_nil, List.append_nil, List.cons_append, List.nil_append]
  after_results_simp <;> rfl

/-- The region finds the gain as a row. -/
theorem V_g : V m c main_v2 = shapeCast S1x4096 (argG m c) shapeCasts_S4096_S1x4096 := by
  simp only [V, hostOps0, List.flatten_cons, List.flatten_nil, List.append_nil, List.cons_append, List.nil_append]
  after_results_simp <;> rfl

/-- The region finds the weight scales as a row. -/
theorem V_s : V m c main_v3 = shapeCast S1x6144 (argS m c) shapeCasts_S6144_S1x6144 := by
  simp only [V, hostOps0, List.flatten_cons, List.flatten_nil, List.append_nil, List.cons_append, List.nil_append]
  after_results_simp <;> rfl

/-- The region finds the positions as a row. -/
theorem V_p : V m c main_v4 = shapeCast S1x256 (argP m c) shapeCasts_S256x1_S1x256 := by
  simp only [V, hostOps0, List.flatten_cons, List.flatten_nil, List.append_nil, List.cons_append, List.nil_append]
  after_results_simp <;> rfl

/-- The region finds the frequencies over 128 lanes. -/
theorem V_f : V m c main_v0 = broadcastInDim S64x128 ![0] bcast_S64_S64x128_0 (fun i => FloatOps.ofBits (F := Ideal) .f32 (lit0 (S64.rowMajor i)) : Vec Ideal S64 .f32) := by
  simp only [V, hostOps0, List.flatten_cons, List.flatten_nil, List.append_nil, List.cons_append, List.nil_append]
  after_results_simp <;> rfl

/-- Where each input window's block lies. -/
theorem idx_in (t : Fin cfg0.N) : win0_0.index t = ![0, 0] ∧ win0_1.index t = ![0, 0] ∧ win0_2.index t = ![0, t.val] ∧ win0_3.index t = ![0, t.val]
    ∧ win0_4.index t = ![0, 0] ∧ win0_5.index t = ![0, 0] :=
  (by decide +kernel : ∀ t : Fin grid0.N, win0_0.index t = ![0, 0] ∧ win0_1.index t = ![0, 0] ∧ win0_2.index t = ![0, t.val] ∧ win0_3.index t = ![0, t.val]
    ∧ win0_4.index t = ![0, 0] ∧ win0_5.index t = ![0, 0]) t

/-- There are six points. -/
theorem lt_points (t : Fin cfg0.N) : t.val < 6 := lt_of_lt_of_eq t.isLt (show cfg0.N = 6 from N_0)

/-- Window 0 at any point: the activations. -/
theorem iblk_x (t : Fin cfg0.N) (r : Fin 256) (k : Fin 4096) : (iblk m c 0 t : Vec Ideal S256x4096 .bf16) (ix2 r k) = argX m c (ix3 r 0 k) := by
  have h : (iblk m c 0 t : Vec Ideal S256x4096 .bf16) (ix2 r k) = (V m c main_v1 : Vec Ideal S256x4096 .bf16) (ix2 r k) := by
    blk_ext [iblk, idx_in t]
  rw [h, V_x]
  pointwise

/-- Window 1 at any point: the gain. -/
theorem iblk_g (t : Fin cfg0.N) (k : Fin 4096) : (iblk m c 1 t : Vec Ideal S1x4096 .f32) (ix2 0 k) = argG m c (ix1 k) := by
  have h : (iblk m c 1 t : Vec Ideal S1x4096 .f32) (ix2 0 k) = (V m c main_v2 : Vec Ideal S1x4096 .f32) (ix2 0 k) := by
    blk_ext [iblk, idx_in t]
  rw [h, V_g]
  pointwise

/-- Window 2 at point `t`: columns `1024 t` to `1024 t + 1023` of the weight. -/
theorem iblk_w (t : Fin cfg0.N) (k : Fin 4096) (n : Fin 1024) (q : Fin 6144) (hq : q.val = 1024 * t.val + n.val) :
    (iblk m c 2 t : Vec Ideal S4096x1024 .fp8e4m3) (ix2 k n) = argW m c (ix2 k q) := by
  have h : (iblk m c 2 t : Vec Ideal S4096x1024 .fp8e4m3) (ix2 k n) = (V m c main_arg2 : Vec Ideal S4096x6144 .fp8e4m3) (ix2 k q) := by
    blk_ext [iblk, idx_in t, hq]
  rw [h, V_main_arg2]

/-- Window 3 at point `t`: the same columns of the weight scales. -/
theorem iblk_s (t : Fin cfg0.N) (n : Fin 1024) (q : Fin 6144) (hq : q.val = 1024 * t.val + n.val) :
    (iblk m c 3 t : Vec Ideal S1x1024 .f32) (ix2 0 n) = argS m c (ix1 q) := by
  have h : (iblk m c 3 t : Vec Ideal S1x1024 .f32) (ix2 0 n) = (V m c main_v3 : Vec Ideal S1x6144 .f32) (ix2 0 q) := by
    blk_ext [iblk, idx_in t, hq]
  rw [h, V_s]
  pointwise

/-- Window 4 at any point: the positions. -/
theorem iblk_p (t : Fin cfg0.N) (r : Fin 256) : (iblk m c 4 t : Vec Ideal S1x256 .i32) (ix2 0 r) = argP m c (ix2 r 0) := by
  have h : (iblk m c 4 t : Vec Ideal S1x256 .i32) (ix2 0 r) = (V m c main_v4 : Vec Ideal S1x256 .i32) (ix2 0 r) := by
    blk_ext [iblk, idx_in t]
  rw [h, V_p]
  pointwise

/-- Window 5 at any point: the frequencies, the same in every lane. -/
theorem iblk_f (t : Fin cfg0.N) (a : Fin 64) (b : Fin 128) : (iblk m c 5 t : Vec Ideal S64x128 .f32) (ix2 a b) = freqK a := by
  have h : (iblk m c 5 t : Vec Ideal S64x128 .f32) (ix2 a b) = (V m c main_v0 : Vec Ideal S64x128 .f32) (ix2 a b) := by
    blk_ext [iblk, idx_in t]
  rw [h, V_f]
  pointwise
  unfold freqK
  congr 1
  exact (by decide +kernel : ∀ a : Fin 64, lit0 (S64.rowMajor (ix1 a)) = lit0 a) a

end Cert.KernelIdeal.Hand
-- ==== Proof.Value.Arrays.lean ====
module

public import proofs.«01_k».proof.Proof.KernelValue.Frame
public import proofs.«01_k».proof.Proof.Value.Tiles
public import proofs.«01_k».proof.Proof.Value.Inputs

/-!
What the kernel's five result arrays hold after the last point, entry by entry, in terms of the arguments.
-/

@[expose] public section

noncomputable section

namespace Cert.KernelIdeal.Hand

open Cert Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-! ## The arguments as plain functions -/

/-- The activations by row. -/
def fX (r : Fin 256) (k : Fin 4096) : EReal := argX m c (ix3 r 0 k)
/-- The gain. -/
def fG (k : Fin 4096) : EReal := argG m c (ix1 k)
/-- The weight's codes. -/
def fW (k : Fin 4096) (n : Fin 6144) : EReal := argW m c (ix2 k n)
/-- The weight's scales. -/
def fS (n : Fin 6144) : EReal := argS m c (ix1 n)
/-- The positions, as numbers. -/
def fP (r : Fin 256) : EReal := FloatOps.sitofp (F := Ideal) .f32 (argP m c (ix2 r 0))

/-- The codes. -/
def codesA : Vec Ideal S256x4096 .fp8e4m3 := fun j => Rows.code (fX m c (j 0)) (fG m c) (j 1)
/-- The scales, over 128 lanes. -/
def scalesA : Vec Ideal S256x128 .f32 := fun j => Rows.scale (fX m c (j 0)) (fG m c)
/-- The row of scales. -/
def rowA : Vec Ideal S1x256 .f32 := fun j => Rows.scale (fX m c (j 1)) (fG m c)
/-- The cosines. -/
def cosA : Vec Ideal S256x128 .f32 := fun j => Ideal.cos (fP m c (j 0) * freqK (Heads.half (j 1)))
/-- The sines, their negatives in the first half. -/
def sinA : Vec Ideal S256x128 .f32 := fun j =>
  if (j 1).val < 64 then 0 - Ideal.sin (fP m c (j 0) * freqK (Heads.half (j 1))) else Ideal.sin (fP m c (j 0) * freqK (Heads.half (j 1)))

/-- The codes of blocks that hold the activations and the gain are the codes. -/
theorem codesK_of (X : Vec Ideal S256x4096 .bf16) (g : Vec Ideal S1x4096 .f32) (hX : ∀ r k, X (ix2 r k) = fX m c r k) (hg : ∀ k, g (ix2 0 k) = fG m c k) :
    codesK X g = codesA m c := by
  funext j
  obtain ⟨a, b, rfl⟩ : ∃ a b, j = ix2 a b := ⟨j 0, j 1, by funext a; fin_cases a <;> rfl⟩
  show Rows.code (fun k => X (ix2 a k)) (fun k => g (ix2 0 k)) b = Rows.code (fX m c a) (fG m c) b
  simp only [hX, hg]

/-- Likewise the scales. -/
theorem scalesK_of (X : Vec Ideal S256x4096 .bf16) (g : Vec Ideal S1x4096 .f32) (hX : ∀ r k, X (ix2 r k) = fX m c r k) (hg : ∀ k, g (ix2 0 k) = fG m c k) :
    scalesK X g = scalesA m c := by
  funext j
  obtain ⟨a, b, rfl⟩ : ∃ a b, j = ix2 a b := ⟨j 0, j 1, by funext a; fin_cases a <;> rfl⟩
  show Rows.scale (fun k => X (ix2 a k)) (fun k => g (ix2 0 k)) = Rows.scale (fX m c a) (fG m c)
  simp only [hX, hg]

/-- The table of cosines from a block that holds the positions. -/
theorem cosK_of (pos : Vec Ideal S1x256 .i32) (hp : ∀ r, pos (ix2 0 r) = argP m c (ix2 r 0)) : cosK pos freqK = cosA m c := by
  funext j
  obtain ⟨a, b, rfl⟩ : ∃ a b, j = ix2 a b := ⟨j 0, j 1, by funext a; fin_cases a <;> rfl⟩
  show Ideal.cos (FloatOps.sitofp (F := Ideal) .f32 (pos (ix2 0 a)) * freqK (Heads.half b)) = Ideal.cos (fP m c a * freqK (Heads.half b))
  rw [hp]
  rfl

/-- Likewise the signed sines. -/
theorem sinK_of (pos : Vec Ideal S1x256 .i32) (hp : ∀ r, pos (ix2 0 r) = argP m c (ix2 r 0)) : sinK pos freqK = sinA m c := by
  funext j
  obtain ⟨a, b, rfl⟩ : ∃ a b, j = ix2 a b := ⟨j 0, j 1, by funext a; fin_cases a <;> rfl⟩
  show (if b.val < 64 then 0 - Ideal.sin (FloatOps.sitofp (F := Ideal) .f32 (pos (ix2 0 a)) * freqK (Heads.half b))
      else Ideal.sin (FloatOps.sitofp (F := Ideal) .f32 (pos (ix2 0 a)) * freqK (Heads.half b)))
    = if b.val < 64 then 0 - Ideal.sin (fP m c a * freqK (Heads.half b)) else Ideal.sin (fP m c a * freqK (Heads.half b))
  rw [hp]
  rfl

/-- The codes made from any point's input blocks. -/
theorem codesK_eq (t : Fin cfg0.N) : codesK (iblk m c 0 t) (iblk m c 1 t) = codesA m c := codesK_of m c _ _ (iblk_x m c t) (iblk_g m c t)

/-- The scales made from any point's input blocks. -/
theorem scalesK_eq (t : Fin cfg0.N) : scalesK (iblk m c 0 t) (iblk m c 1 t) = scalesA m c := scalesK_of m c _ _ (iblk_x m c t) (iblk_g m c t)

/-- The cosines made from any point's input blocks. -/
theorem cosK_eq (t : Fin cfg0.N) : cosK (iblk m c 4 t) freqK = cosA m c := cosK_of m c _ (iblk_p m c t)

/-- The signed sines made from any point's input blocks. -/
theorem sinK_eq (t : Fin cfg0.N) : sinK (iblk m c 4 t) freqK = sinA m c := sinK_of m c _ (iblk_p m c t)

/-- The row of scales is the first lane of the scales, turned. -/
theorem row_eq : k0_pay94 (scalesA m c) = rowA m c := by
  funext j
  obtain ⟨a, r, rfl⟩ : ∃ a r, j = ix2 a r := ⟨j 0, j 1, by funext a; fin_cases a <;> rfl⟩
  obtain rfl : a = 0 := Subsingleton.elim _ _
  unfold k0_pay94
  pointwise
  rfl

/-! ## What each point leaves -/

/-- One entry of a projection whose weight and weight scale are column `q` of the arguments. -/
theorem projK_of_cols (W : Vec Ideal S4096x1024 .fp8e4m3) (U : Vec Ideal S1x1024 .f32) (r : Fin 256) (h : Fin 8) (d : Fin 128) (q : Fin 6144)
    (hW : ∀ k, W (ix2 k ⟨128 * h.val + d.val, by omega⟩) = fW m c k q) (hU : U (ix2 0 ⟨128 * h.val + d.val, by omega⟩) = fS m c q) :
    projK (codesA m c) (scalesA m c) W U r h d = Heads.proj (fX m c) (fG m c) (fW m c) (fS m c) r q := by
  unfold projK
  rw [hU]
  simp only [hW]
  rfl

/-- One entry of a point's projection: head `h` of point `t` is head `8 t + h` of the product. -/
theorem projK_eq (t : Fin cfg0.N) (r : Fin 256) (h : Fin 8) (d : Fin 128) (H : Fin 48) (hH : H.val = 8 * t.val + h.val) :
    projK (codesA m c) (scalesA m c) (iblk m c 2 t) (iblk m c 3 t) r h d = Heads.proj (fX m c) (fG m c) (fW m c) (fS m c) r (Heads.col H d) := by
  have hq : (Heads.col H d).val = 1024 * t.val + (128 * h.val + d.val) := by unfold Heads.col; simp only; omega
  exact projK_of_cols m c _ _ r h d _ (fun k => iblk_w m c t k ⟨128 * h.val + d.val, by omega⟩ _ hq) (iblk_s m c t ⟨128 * h.val + d.val, by omega⟩ _ hq)

/-- The heads that point `t` computes, with the rotary embedding. -/
def ropeA (t : ℕ) (ht : t < 6) : Vec Ideal S256x8x128 .bf16 := fun j =>
  Heads.rope (fX m c) (fG m c) (fW m c) (fS m c) (fP m c) freqK (j 0) ⟨8 * t + (j 1).val, by have := (j 1).isLt; have : (j 1).val < 8 := this; omega⟩ (j 2)

/-- The heads that point `t` computes, without it. -/
def plainA (t : ℕ) (ht : t < 6) : Vec Ideal S256x8x128 .bf16 := fun j =>
  Heads.proj (fX m c) (fG m c) (fW m c) (fS m c) (j 0) (Heads.col ⟨8 * t + (j 1).val, by have := (j 1).isLt; have : (j 1).val < 8 := this; omega⟩ (j 2))

/-- The eight heads of point `t` with the rotary embedding. -/
theorem ropeK_eq (t : Fin cfg0.N) : ropeK (codesA m c) (scalesA m c) (cosA m c) (sinA m c) (iblk m c 2 t) (iblk m c 3 t) = ropeA m c t.val (lt_points t) := by
  funext j
  obtain ⟨r, h, d, rfl⟩ : ∃ r h d, j = ix3 r h d := ⟨j 0, j 1, j 2, by funext a; fin_cases a <;> rfl⟩
  have ht := lt_points t
  show projK _ _ _ _ r h d * cosA m c (ix2 r d) + projK _ _ _ _ r h (Heads.turn d) * sinA m c (ix2 r d) = _
  rw [projK_eq m c t r h d ⟨8 * t.val + h.val, by omega⟩ rfl, projK_eq m c t r h (Heads.turn d) ⟨8 * t.val + h.val, by omega⟩ rfl]
  rfl

/-- The eight heads of point `t` without it. -/
theorem plainK_eq (t : Fin cfg0.N) : plainK (codesA m c) (scalesA m c) (iblk m c 2 t) (iblk m c 3 t) = plainA m c t.val (lt_points t) := by
  funext j
  obtain ⟨r, h, d, rfl⟩ : ∃ r h d, j = ix3 r h d := ⟨j 0, j 1, j 2, by funext a; fin_cases a <;> rfl⟩
  have ht := lt_points t
  show projK _ _ _ _ r h d = _
  rw [projK_eq m c t r h d ⟨8 * t.val + h.val, by omega⟩ rfl]
  rfl

/-- A query point after the first keeps all but its output heads. -/
theorem stepB_rest (t : Fin cfg0.N) (h0 h1 h2 h3) (p : Step Ideal) : (stepB m c t h0 h1 h2 h3 p).2.2.2 = p.2.2.2 := by unfold stepB; rfl
/-- The key point keeps the codes, the row of scales and the tables. -/
theorem stepC_rest (t : Fin cfg0.N) (h0 h1 h2 h3) (p : Step Ideal) : (stepC m c t h0 h1 h2 h3 p).2.2.2 = p.2.2.2 := by unfold stepC; rfl
/-- The value point keeps the codes, the row of scales and the tables. -/
theorem stepD_rest (t : Fin cfg0.N) (h0 h1 h2 h3) (p : Step Ideal) : (stepD m c t h0 h1 h2 h3 p).2.2.2 = p.2.2.2 := by unfold stepD; rfl
/-- The key point keeps the buffer of queries. -/
theorem stepC_q (t : Fin cfg0.N) (h0 h1 h2 h3) (p : Step Ideal) : (stepC m c t h0 h1 h2 h3 p).1 = p.1 := by unfold stepC; rfl
/-- The value point keeps the buffer of queries. -/
theorem stepD_q (t : Fin cfg0.N) (h0 h1 h2 h3) (p : Step Ideal) : (stepD m c t h0 h1 h2 h3 p).1 = p.1 := by unfold stepD; rfl
/-- The value point keeps the buffer of keys. -/
theorem stepD_k (t : Fin cfg0.N) (h0 h1 h2 h3) (p : Step Ideal) : (stepD m c t h0 h1 h2 h3 p).2.1 = p.2.1 := by unfold stepD; rfl

/-- What the first point leaves of the codes, the row of scales and the three tables. -/
theorem first (t : Fin cfg0.N) (h : t.val = 0) : (outsAt0 m c t.val t.isLt).2.2.2 = (codesA m c, rowA m c, scalesA m c, cosA m c, sinA m c) := by
  rw [outsAt0_A m c t (by omega) (by omega) (by omega) (by omega)]
  refine Prod.ext ?_ (Prod.ext ?_ (Prod.ext ?_ (Prod.ext ?_ ?_)))
  · exact (stepA_codes m c _ _ _ _ _).trans (codesK_eq m c _)
  · exact (stepA_row m c _ _ _ _ _).trans ((congrArg k0_pay94 (scalesK_eq m c _)).trans (row_eq m c))
  · exact (stepA_scales m c _ _ _ _ _).trans (scalesK_eq m c _)
  · exact (stepA_cos m c freqK _ (iblk_f m c _) _ _ _ _).trans (cosK_eq m c _)
  · exact (stepA_sin m c freqK _ (iblk_f m c _) _ _ _ _).trans (sinK_eq m c _)

/-- A later point leaves them as it found them. -/
theorem later (t : Fin cfg0.N) (h : t.val ≠ 0) :
    (outsAt0 m c t.val t.isLt).2.2.2 = (outsAt0 m c (t.val - 1) (Nat.lt_of_le_of_lt (Nat.sub_le _ _) t.isLt)).2.2.2 := by
  have hN := lt_points t
  by_cases h1 : t.val < 4
  · rw [outsAt0_B m c t (by omega) h1 (by omega) (by omega), stepB_rest]
  · by_cases h2 : t.val % 6 = 4
    · rw [outsAt0_C m c t (by omega) h1 h2 (by omega), stepC_rest]
    · rw [outsAt0_D m c t (by omega) h1 h2 (by omega), stepD_rest]

/-- Every point ends with the codes, the row of scales and the three tables that the first point made. -/
theorem carried (n : ℕ) (hn : n < cfg0.N) : (outsAt0 m c n hn).2.2.2 = (codesA m c, rowA m c, scalesA m c, cosA m c, sinA m c) := by
  induction n with
  | zero => exact first m c ⟨0, hn⟩ rfl
  | succ n ih => exact (later m c ⟨n + 1, hn⟩ (Nat.succ_ne_zero n)).trans (ih _)

/-- A query point leaves its eight heads. -/
theorem out_q (t : Fin cfg0.N) (h : t.val < 4) : (outsAt0 m c t.val t.isLt).1 = ropeA m c t.val (lt_points t) := by
  by_cases h0 : t.val = 0
  · rw [outsAt0_A m c t (by omega) h (by omega) (by omega), stepA_q m c freqK t (iblk_f m c t), codesK_eq, scalesK_eq, cosK_eq, sinK_eq, ropeK_eq]
  · rw [outsAt0_B m c t (by omega) h (by omega) (by omega), stepB_q, carried, ropeK_eq]

/-- The key point leaves the queries as it found them. -/
theorem out_q4 (t : Fin cfg0.N) (h : t.val = 4) :
    (outsAt0 m c t.val t.isLt).1 = (outsAt0 m c (t.val - 1) (Nat.lt_of_le_of_lt (Nat.sub_le _ _) t.isLt)).1 := by
  rw [outsAt0_C m c t (by omega) (by omega) (by omega) (by omega), stepC_q]

/-- The value point leaves the queries as it found them. -/
theorem out_q5 (t : Fin cfg0.N) (h : t.val = 5) :
    (outsAt0 m c t.val t.isLt).1 = (outsAt0 m c (t.val - 1) (Nat.lt_of_le_of_lt (Nat.sub_le _ _) t.isLt)).1 := by
  rw [outsAt0_D m c t (by omega) (by omega) (by omega) (by omega), stepD_q]

/-- So at the last point the buffer of queries holds those of the fourth. -/
theorem out_q_last : (outsAt0 m c t0_5.val t0_5.isLt).1 = ropeA m c 3 (by norm_num) :=
  (out_q5 m c t0_5 rfl).trans ((out_q4 m c t0_4 rfl).trans (out_q m c t0_3 (by decide)))

/-- The key point leaves the key heads. -/
theorem out_k4 (t : Fin cfg0.N) (h : t.val = 4) : (outsAt0 m c t.val t.isLt).2.1 = ropeA m c t.val (lt_points t) := by
  rw [outsAt0_C m c t (by omega) (by omega) (by omega) (by omega), stepC_k, carried, ropeK_eq]

/-- The last point leaves the keys as it found them. -/
theorem out_k5 (t : Fin cfg0.N) (h : t.val = 5) :
    (outsAt0 m c t.val t.isLt).2.1 = (outsAt0 m c (t.val - 1) (Nat.lt_of_le_of_lt (Nat.sub_le _ _) t.isLt)).2.1 := by
  rw [outsAt0_D m c t (by omega) (by omega) (by omega) (by omega), stepD_k]

/-- So at the last point the buffer of keys holds the key heads. -/
theorem out_k_last : (outsAt0 m c t0_5.val t0_5.isLt).2.1 = ropeA m c 4 (by norm_num) :=
  (out_k5 m c t0_5 rfl).trans (out_k4 m c t0_4 rfl)

/-- The last point leaves the value heads. -/
theorem out_v (t : Fin cfg0.N) (h : t.val = 5) : (outsAt0 m c t.val t.isLt).2.2.1 = plainA m c t.val (lt_points t) := by
  rw [outsAt0_D m c t (by omega) (by omega) (by omega) (by omega), stepD_v, carried, plainK_eq]

/-! ## The arrays after the last point -/

/-- The queries: 32 heads. -/
def qA : Vec Ideal S256x32x128 .bf16 := fun j =>
  Heads.rope (fX m c) (fG m c) (fW m c) (fS m c) (fP m c) freqK (j 0) ⟨(j 1).val, by have := (j 1).isLt; have : (j 1).val < 32 := this; omega⟩ (j 2)

/-- The array of keys after the run. -/
theorem arr_k : (dats m 0 c).arrAt 7 cfg0.N = ropeA m c 4 (by norm_num) := by
  refine (dats m 0 c).arrAt_eq_of_after_last 7 t0_5 (by decide +kernel) _ fun j => ?_
  blk_simp
  rw [after0_7, out_k_last]

/-- The array of values after the run. -/
theorem arr_v : (dats m 0 c).arrAt 8 cfg0.N = plainA m c 5 (by norm_num) := by
  refine (dats m 0 c).arrAt_eq_of_after_last 8 t0_5 (by decide +kernel) _ fun j => ?_
  blk_simp
  rw [after0_8, out_v m c t0_5 rfl]
  rfl

/-- The array of codes after the run. -/
theorem arr_codes : (dats m 0 c).arrAt 9 cfg0.N = codesA m c := by
  refine (dats m 0 c).arrAt_eq_of_after_last 9 t0_5 (by decide +kernel) _ fun j => ?_
  blk_simp
  rw [after0_9, carried]

/-- The row of scales after the run. -/
theorem arr_row : (dats m 0 c).arrAt 10 cfg0.N = rowA m c := by
  refine (dats m 0 c).arrAt_eq_of_after_last 10 t0_5 (by decide +kernel) _ fun j => ?_
  blk_simp
  rw [after0_10, carried]

/-- The heads depend on the number of the point alone. -/
theorem ropeA_congr (n n' : ℕ) (h : n < 6) (h' : n' < 6) (e : n = n') : ropeA m c n h = ropeA m c n' h' := by
  subst e
  rfl

/-- The eight heads of point `n` are heads `8 n` to `8 n + 7` of the queries. -/
theorem ropeA_qA (n : ℕ) (h : n < 6) (y : S256x8x128.Idx) (j : S256x32x128.Idx) (h0 : (j 0).val = (y 0).val)
    (h1 : (j 1).val = 8 * n + (y 1).val) (h2 : (j 2).val = (y 2).val) : ropeA m c n h y = qA m c j := by
  have e0 : y 0 = j 0 := Fin.ext h0.symm
  have e2 : y 2 = j 2 := Fin.ext h2.symm
  unfold ropeA qA
  rw [e0, e2]
  congr 1
  exact Fin.ext h1.symm

/-- Where the queries' window writes back: at the first three points their own eight heads, at the last point those of the
    fourth. -/
theorem idx_q (t : Fin cfg0.N) : win0_6.index t = ![0, min t.val 3, 0] ∧ ((cfg0.win 6).flush t = true → t.val < 3 ∨ t = t0_5) :=
  (by decide +kernel : ∀ t : Fin grid0.N, win0_6.index t = ![0, min t.val 3, 0] ∧ ((cfg0.win 6).flush t = true → t.val < 3 ∨ t = t0_5)) t

/-- What the buffer of queries holds at each point that writes it back. -/
theorem out_q_flush (t : Fin cfg0.N) (hf : (cfg0.win 6).flush t = true) :
    (outsAt0 m c t.val t.isLt).1 = ropeA m c (min t.val 3) (by omega) := by
  rcases (idx_q t).2 hf with h | rfl
  · rw [out_q m c t (by omega)]
    exact ropeA_congr m c _ _ _ _ (by omega)
  · exact out_q_last m c

/-- The array of queries after the run. -/
theorem arr_q : (dats m 0 c).arrAt 6 cfg0.N = qA m c := by
  refine (dats m 0 c).arrAt_eq_of_covers 6 _ (by decide +kernel) fun t hf y => ?_
  blk_simp
  rw [after0_6, out_q_flush m c t hf]
  have hi := (idx_q t).1
  refine ropeA_qA m c _ _ y _ ?_ ?_ ?_
  · blk_simp [hi]
  · blk_simp [hi]
    omega
  · blk_simp [hi]

end Cert.KernelIdeal.Hand
-- ==== Proof.Value.KernelRun.lean ====
module

public import proofs.«01_k».proof.Proof.Value.Arrays

/-!
The kernel's run with its five results named: the arrays of `Arrays`, the arguments unchanged.
-/

@[expose] public section

noncomputable section

namespace Cert.KernelIdeal.Hand

open Cert Cert.KernelIdeal Cert.KernelIdeal.Gen
open Idealize.ShloMosaic Idealize.ShloMosaic.TcCoe

variable (m : (ℓ : Loc nD τ sig) → Buf (Elt Ideal) ℓ) (ρ : Dev nD → PrngReg)

/-- The kernel runs, ends with the queries, the keys, the values, the codes and the row of scales, and keeps its
    arguments. -/
theorem run_results : θ_run (defs (F := Ideal)) (onTc (τ := τ) (main (F := Ideal))) ⟨m, fun _ => 0, ρ⟩ fun r => ∀ c : Dev nD,
      r.2.mem ((c.tc : Thread nD τ).loc main_v5_0) = qA m c
      ∧ r.2.mem ((c.tc : Thread nD τ).loc main_v5_1) = ropeA m c 4 (by norm_num)
      ∧ r.2.mem ((c.tc : Thread nD τ).loc main_v5_2) = plainA m c 5 (by norm_num)
      ∧ r.2.mem ((c.tc : Thread nD τ).loc main_v5_3) = codesA m c
      ∧ r.2.mem ((c.tc : Thread nD τ).loc main_v5_4) = rowA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans (arr_q m c),
      ((h c).1 7).trans (arr_k m c),
      ((h c).1 8).trans (arr_v m c),
      ((h c).1 9).trans (arr_codes m c),
      ((h c).1 10).trans (arr_row m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Hand
-- ==== Proof.Ref.Run.lean ====
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The reference's stages, each as a function of the stages before -/

/-- The normalised activations: `x * rsqrt(mean(x²) + 1e-6) * gain`, row by row. -/
def hT (x : Vec F S256x1x4096 .bf16) (g : Vec F S4096 .f32) : Vec F S256x4096 .f32 :=
  mulf (mulf (extf .f32 (shapeCast _ x shapeCasts_S256x1x4096_S256x4096) bitsLt_bf16_f32) (broadcastInDim S256x4096 ![0, 1] bcast_S256x1_S256x4096_0_1 (Host.rsqrt (addf (Host.divf (broadcastInDim S256x1 ![0] bcast_S256_S256x1_0 (Host.reduceAdd (mulf (extf .f32 (shapeCast _ x shapeCasts_S256x1x4096_S256x4096) bitsLt_bf16_f32) (extf .f32 (shapeCast _ x shapeCasts_S256x1x4096_S256x4096) bitsLt_bf16_f32)) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 (broadcastInDim S1x4096 ![1] bcast_S4096_S1x4096_1 g))

/-- Each row's greatest magnitude over 448. -/
def vT (h : Vec F S256x4096 .f32) : Vec F S256x1 .f32 :=
  mulf (broadcastInDim S256x1 ![0] bcast_S256_S256x1_0 (Host.reduce FloatOps.maximumf (Host.absf h) (constant S_ .f32 0xFF800000#32) reducesTo_S256x4096_S256_d1 h_S_)) (broadcastInDim S256x1 ![] bcast_S_S256x1 (constant S_ .f32 0x3B124925#32))

/-- The normal powers of two, least first. -/
def powersT : Vec F S254 .f32 := fun i => FloatOps.ofBits .f32 (lit0 (S254.rowMajor i))

/-- Each row's scale: the least power of two above the row's `v`, or one where there is none. -/
def scaleT (v : Vec F S256x1 .f32) : Vec F S256x1 .f32 :=
  select (andi (cmpf .oge v (broadcastInDim S256x1 ![] bcast_S_S256x1 (constant S_ .f32 0x00800000#32))) (cmpf .olt v (broadcastInDim S256x1 ![] bcast_S_S256x1 (constant S_ .f32 0x7F800000#32)))) (broadcastInDim S256x1 ![0] bcast_S256_S256x1_0 (Host.reduce FloatOps.minimumf (select (cmpf .olt (broadcastInDim S256x254 ![0, 1] bcast_S256x1_S256x254_0_1 v) (broadcastInDim S256x254 ![0, 1] bcast_S1x254_S256x254_0_1 (broadcastInDim S1x254 ![1] bcast_S254_S1x254_1 powersT))) (broadcastInDim S256x254 ![1] bcast_S254_S256x254_1 powersT) (broadcastInDim S256x254 ![] bcast_S_S256x254 (constant S_ .f32 0x7F800000#32))) (constant S_ .f32 0x7F800000#32) reducesTo_S256x254_S256_d1 h_S_)) (broadcastInDim S256x1 ![] bcast_S_S256x1 (constant S_ .f32 0x3F800000#32))

/-- Each row's inverse scale. -/
def invT (s : Vec F S256x1 .f32) : Vec F S256x1 .f32 :=
  select (cmpf .olt s (broadcastInDim S256x1 ![] bcast_S_S256x1 (constant S_ .f32 0x7F000000#32))) (Host.divf (broadcastInDim S256x1 ![] bcast_S_S256x1 (constant S_ .f32 0x3F800000#32)) s) (broadcastInDim S256x1 ![] bcast_S_S256x1 (constant S_ .f32 0x00000000#32))

/-- The rotary frequencies. -/
def freqT : Vec F S64 .f32 := fun i => FloatOps.ofBits .f32 (lit1 (S64.rowMajor i))

/-- The product scaled back: `acc * scale * w_scale`. -/
def yT (acc : Vec F S256x6144 .f32) (s : Vec F S256x1 .f32) (ws : Vec F S6144 .f32) : Vec F S256x6144 .f32 :=
  mulf (mulf acc (broadcastInDim S256x6144 ![0, 1] bcast_S256x1_S256x6144_0_1 s)) (broadcastInDim S256x6144 ![0, 1] bcast_S1x6144_S256x6144_0_1 (broadcastInDim S1x6144 ![1] bcast_S6144_S1x6144_1 ws))

/-- The rotary angles. -/
def anglesT (pos : Vec F S256x1 .i32) (freq : Vec F S64 .f32) : Vec F S256x64 .f32 :=
  mulf (broadcastInDim S256x64 ![0, 1] bcast_S256x1_S256x64_0_1 (sitofp .f32 pos)) (broadcastInDim S256x64 ![0, 1] bcast_S1x64_S256x64_0_1 (broadcastInDim S1x64 ![1] bcast_S64_S1x64_1 freq))

/-- The queries: the first 32 heads of `y`, turned by the angles `a`. -/
def qT (y : Vec F S256x6144 .f32) (a : Vec F S256x64 .f32) : Vec F S256x32x128 .bf16 :=
  truncf .bf16 (concatenate S256x32x128 2 [⟨S256x32x64, (subf (mulf (extractStridedSlice S256x32x64 ![0, 0, 0] (shapeCast _ (extractStridedSlice S256x4096 ![0, 0] y slices_S256x6144_S256x4096_0_0) shapeCasts_S256x4096_S256x32x128) slices_S256x32x128_S256x32x64_0_0_0) (broadcastInDim S256x32x64 ![0, 1, 2] bcast_S256x1x64_S256x32x64_0_1_2 (broadcastInDim S256x1x64 ![0, 2] bcast_S256x64_S256x1x64_0_2 (Host.cos a)))) (mulf (extractStridedSlice S256x32x64 ![0, 0, 64] (shapeCast _ (extractStridedSlice S256x4096 ![0, 0] y slices_S256x6144_S256x4096_0_0) shapeCasts_S256x4096_S256x32x128) slices_S256x32x128_S256x32x64_0_0_64) (broadcastInDim S256x32x64 ![0, 1, 2] bcast_S256x1x64_S256x32x64_0_1_2 (broadcastInDim S256x1x64 ![0, 2] bcast_S256x64_S256x1x64_0_2 (Host.sin a)))))⟩, ⟨S256x32x64, (addf (mulf (extractStridedSlice S256x32x64 ![0, 0, 64] (shapeCast _ (extractStridedSlice S256x4096 ![0, 0] y slices_S256x6144_S256x4096_0_0) shapeCasts_S256x4096_S256x32x128) slices_S256x32x128_S256x32x64_0_0_64) (broadcastInDim S256x32x64 ![0, 1, 2] bcast_S256x1x64_S256x32x64_0_1_2 (broadcastInDim S256x1x64 ![0, 2] bcast_S256x64_S256x1x64_0_2 (Host.cos a)))) (mulf (extractStridedSlice S256x32x64 ![0, 0, 0] (shapeCast _ (extractStridedSlice S256x4096 ![0, 0] y slices_S256x6144_S256x4096_0_0) shapeCasts_S256x4096_S256x32x128) slices_S256x32x128_S256x32x64_0_0_0) (broadcastInDim S256x32x64 ![0, 1, 2] bcast_S256x1x64_S256x32x64_0_1_2 (broadcastInDim S256x1x64 ![0, 2] bcast_S256x64_S256x1x64_0_2 (Host.sin a)))))⟩] concatenates_S256x32x64_S256x32x64_S256x32x128_d2) bitsLt_bf16_f32

/-- The keys: the next 8 heads, turned. -/
def kT (y : Vec F S256x6144 .f32) (a : Vec F S256x64 .f32) : Vec F S256x8x128 .bf16 :=
  truncf .bf16 (concatenate S256x8x128 2 [⟨S256x8x64, (subf (mulf (extractStridedSlice S256x8x64 ![0, 0, 0] (shapeCast _ (extractStridedSlice S256x1024 ![0, 4096] y slices_S256x6144_S256x1024_0_4096) shapeCasts_S256x1024_S256x8x128) slices_S256x8x128_S256x8x64_0_0_0) (broadcastInDim S256x8x64 ![0, 1, 2] bcast_S256x1x64_S256x8x64_0_1_2 (broadcastInDim S256x1x64 ![0, 2] bcast_S256x64_S256x1x64_0_2 (Host.cos a)))) (mulf (extractStridedSlice S256x8x64 ![0, 0, 64] (shapeCast _ (extractStridedSlice S256x1024 ![0, 4096] y slices_S256x6144_S256x1024_0_4096) shapeCasts_S256x1024_S256x8x128) slices_S256x8x128_S256x8x64_0_0_64) (broadcastInDim S256x8x64 ![0, 1, 2] bcast_S256x1x64_S256x8x64_0_1_2 (broadcastInDim S256x1x64 ![0, 2] bcast_S256x64_S256x1x64_0_2 (Host.sin a)))))⟩, ⟨S256x8x64, (addf (mulf (extractStridedSlice S256x8x64 ![0, 0, 64] (shapeCast _ (extractStridedSlice S256x1024 ![0, 4096] y slices_S256x6144_S256x1024_0_4096) shapeCasts_S256x1024_S256x8x128) slices_S256x8x128_S256x8x64_0_0_64) (broadcastInDim S256x8x64 ![0, 1, 2] bcast_S256x1x64_S256x8x64_0_1_2 (broadcastInDim S256x1x64 ![0, 2] bcast_S256x64_S256x1x64_0_2 (Host.cos a)))) (mulf (extractStridedSlice S256x8x64 ![0, 0, 0] (shapeCast _ (extractStridedSlice S256x1024 ![0, 4096] y slices_S256x6144_S256x1024_0_4096) shapeCasts_S256x1024_S256x8x128) slices_S256x8x128_S256x8x64_0_0_0) (broadcastInDim S256x8x64 ![0, 1, 2] bcast_S256x1x64_S256x8x64_0_1_2 (broadcastInDim S256x1x64 ![0, 2] bcast_S256x64_S256x1x64_0_2 (Host.sin a)))))⟩] concatenates_S256x8x64_S256x8x64_S256x8x128_d2) bitsLt_bf16_f32

/-- The values: the last 8 heads. -/
def vvT (y : Vec F S256x6144 .f32) : Vec F S256x8x128 .bf16 :=
  truncf .bf16 (shapeCast _ (extractStridedSlice S256x1024 ![0, 5120] y slices_S256x6144_S256x1024_0_5120) shapeCasts_S256x1024_S256x8x128) bitsLt_bf16_f32

variable (m : (ℓ : Loc nD τ sig) → Buf (Elt F) ℓ)

/-- The reference's activations, as launched, through the normalisation. -/
abbrev hM (c : Dev nD) : Vec F S256x4096 .f32 := hT (m ((c.tc : Thread nD τ).loc main_arg0)) (m ((c.tc : Thread nD τ).loc main_arg1))
/-- The reference's scales. -/
abbrev sM (c : Dev nD) : Vec F S256x1 .f32 := scaleT (vT (hM m c))

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v38_0` (window 3's): not opened here. -/
def reg_main_v38_0 (c : Dev nD) : Buf (Elt F) ((c.tc : Thread nD τ).loc main_v38_0) := (Gen.dats m 0 c).arrAt 3 cfg0.N
/-- What the kernel region leaves in its result array `main_v38_1` (window 4's): not opened here. -/
def reg_main_v38_1 (c : Dev nD) : Buf (Elt F) ((c.tc : Thread nD τ).loc main_v38_1) := (Gen.dats m 0 c).arrAt 4 cfg0.N

/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)

set_option maxRecDepth 8192 in
set_option maxHeartbeats 2000000 in
/-- The region finds the normalised activations in its first window's array. -/
theorem V0_h (c : Dev nD) : Gen.V0 m c (Proc.devRef .tc main_v14) = hM m c := by
  unfold hM hT
  simp only [Gen.V0, Gen.hostOps0, Gen.hostOps0_1, Gen.hostOps0_2, Gen.hostOps0_3, Gen.hostOps0_4, Gen.hostOps0_5, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
/-- The scales, computed before the region. -/
theorem V0_scale (c : Dev nD) : Gen.V0 m c (Proc.devRef .tc main_v32) = sM m c := by
  unfold sM hM hT vT scaleT powersT
  simp only [Gen.V0, Gen.hostOps0, Gen.hostOps0_1, Gen.hostOps0_2, Gen.hostOps0_3, Gen.hostOps0_4, Gen.hostOps0_5, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
/-- The region finds the inverse scales in its second window's array. -/
theorem V0_inv (c : Dev nD) : Gen.V0 m c (Proc.devRef .tc main_v37) = invT (sM m c) := by
  unfold invT sM hM hT vT scaleT powersT
  simp only [Gen.V0, Gen.hostOps0, Gen.hostOps0_1, Gen.hostOps0_2, Gen.hostOps0_3, Gen.hostOps0_4, Gen.hostOps0_5, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
/-- The frequencies, a constant of the host program. -/
theorem V0_freq (c : Dev nD) : Gen.V0 m c (Proc.devRef .tc main_cst_0) = freqT := by
  unfold freqT
  simp only [Gen.V0, Gen.hostOps0, Gen.hostOps0_1, Gen.hostOps0_2, Gen.hostOps0_3, Gen.hostOps0_4, Gen.hostOps0_5, TRef.ternary, TRef.unary, TRef.toBuf, TRef.ofBuf, cast_eq, List.flatten_cons, List.flatten_nil, List.append_nil, List.cons_append, List.nil_append]
  after_results_simp <;> rfl

/-- The exit contents at the scales. -/
theorem exit_main_v32 (c : Dev nD) : exitV m c (Proc.devRef .tc main_v32) = sM m c :=
  (Pipeline.withArrays_of_ne _ c (Gen.V0 m c) _ main_v32 (by exact (by decide : ∀ w, Pipeline.arrRef spec0 w ≠ main_v32))).trans (V0_scale m c)
/-- The exit contents at the frequencies. -/
theorem exit_main_cst_0 (c : Dev nD) : exitV m c (Proc.devRef .tc main_cst_0) = freqT :=
  (Pipeline.withArrays_of_ne _ c (Gen.V0 m c) _ main_cst_0 (by exact (by decide : ∀ w, Pipeline.arrRef spec0 w ≠ main_cst_0))).trans (V0_freq m c)
/-- The exit contents at the region's result array `main_v38_1`. -/
theorem exit_main_v38_1 (c : Dev nD) : exitV m c (Proc.devRef .tc main_v38_1) = reg_main_v38_1 m c :=
  Pipeline.withArrays_arr spec0 Gen.launch0.win.arr_inj c (Gen.V0 m c) _ 4
/-- The exit contents at the region's result array `main_v38_0`. -/
theorem exit_main_v38_0 (c : Dev nD) : exitV m c (Proc.devRef .tc main_v38_0) = reg_main_v38_0 m c :=
  Pipeline.withArrays_arr spec0 Gen.launch0.win.arr_inj c (Gen.V0 m c) _ 3

/-- The product scaled back, of the region's product. -/
abbrev yM (c : Dev nD) : Vec F S256x6144 .f32 := yT (reg_main_v38_1 m c) (sM m c) (m ((c.tc : Thread nD τ).loc main_arg3))
/-- The angles, of the launched positions. -/
abbrev aM (c : Dev nD) : Vec F S256x64 .f32 := anglesT (m ((c.tc : Thread nD τ).loc main_arg4)) freqT

set_option maxRecDepth 8192 in
set_option maxHeartbeats 2000000 in
/-- The later operations from any contents `V0`, read at the queries. -/
theorem tail_main_v72 (V0 : Valuation τ sig (Elt F)) :
    StableHlo.after (List.flatten [Gen.hostOps1]) V0 (Proc.devRef .tc main_v72) = qT (yT (V0 (Proc.devRef .tc main_v38_1)) (V0 (Proc.devRef .tc main_v32)) (V0 (Proc.devRef .tc main_arg3))) (anglesT (V0 (Proc.devRef .tc main_arg4)) (V0 (Proc.devRef .tc main_cst_0))) := by
  unfold qT yT anglesT
  simp only [Gen.hostOps1, List.flatten_cons, List.flatten_nil, List.append_nil, List.cons_append, List.nil_append]
  after_results_simp <;> rfl
/-- The queries that @main returns. -/
theorem fin_main_v72 (c : Dev nD) :
    Pipeline.afterTail₀ cfgs (Gen.dats m) 0 (Gen.V0 m) [Gen.hostOps1] c main_v72 = qT (yM m c) (aM m c) :=
  (tail_main_v72 (exitV m c)).trans (by rw [exit_main_v38_1, exit_main_v32, exit_main_arg3, exit_main_arg4, exit_main_cst_0])

set_option maxRecDepth 8192 in
set_option maxHeartbeats 2000000 in
/-- The later operations from any contents `V0`, read at the keys. -/
theorem tail_main_v86 (V0 : Valuation τ sig (Elt F)) :
    StableHlo.after (List.flatten [Gen.hostOps1]) V0 (Proc.devRef .tc main_v86) = kT (yT (V0 (Proc.devRef .tc main_v38_1)) (V0 (Proc.devRef .tc main_v32)) (V0 (Proc.devRef .tc main_arg3))) (anglesT (V0 (Proc.devRef .tc main_arg4)) (V0 (Proc.devRef .tc main_cst_0))) := by
  unfold kT yT anglesT
  simp only [Gen.hostOps1, List.flatten_cons, List.flatten_nil, List.append_nil, List.cons_append, List.nil_append]
  after_results_simp <;> rfl
/-- The keys that @main returns. -/
theorem fin_main_v86 (c : Dev nD) :
    Pipeline.afterTail₀ cfgs (Gen.dats m) 0 (Gen.V0 m) [Gen.hostOps1] c main_v86 = kT (yM m c) (aM m c) :=
  (tail_main_v86 (exitV m c)).trans (by rw [exit_main_v38_1, exit_main_v32, exit_main_arg3, exit_main_arg4, exit_main_cst_0])

set_option maxRecDepth 8192 in
set_option maxHeartbeats 2000000 in
/-- The later operations from any contents `V0`, read at the values. -/
theorem tail_main_v87 (V0 : Valuation τ sig (Elt F)) :
    StableHlo.after (List.flatten [Gen.hostOps1]) V0 (Proc.devRef .tc main_v87) = vvT (yT (V0 (Proc.devRef .tc main_v38_1)) (V0 (Proc.devRef .tc main_v32)) (V0 (Proc.devRef .tc main_arg3))) := by
  unfold vvT yT
  simp only [Gen.hostOps1, List.flatten_cons, List.flatten_nil, List.append_nil, List.cons_append, List.nil_append]
  after_results_simp <;> rfl
/-- The values that @main returns. -/
theorem fin_main_v87 (c : Dev nD) :
    Pipeline.afterTail₀ cfgs (Gen.dats m) 0 (Gen.V0 m) [Gen.hostOps1] c main_v87 = vvT (yM m c) :=
  (tail_main_v87 (exitV m c)).trans (by rw [exit_main_v38_1, exit_main_v32, exit_main_arg3])

set_option maxRecDepth 8192 in
set_option maxHeartbeats 2000000 in
/-- The later operations from any contents `V0`, read at the row of scales. -/
theorem tail_main_v88 (V0 : Valuation τ sig (Elt F)) :
    StableHlo.after (List.flatten [Gen.hostOps1]) V0 (Proc.devRef .tc main_v88) = shapeCast _ (V0 (Proc.devRef .tc main_v32)) shapeCasts_S256x1_S1x256 := by
  simp only [Gen.hostOps1, List.flatten_cons, List.flatten_nil, List.append_nil, List.cons_append, List.nil_append]
  after_results_simp <;> rfl
/-- The row of scales that @main returns. -/
theorem fin_main_v88 (c : Dev nD) :
    Pipeline.afterTail₀ cfgs (Gen.dats m) 0 (Gen.V0 m) [Gen.hostOps1] c main_v88 = shapeCast _ (sM m c) shapeCasts_S256x1_S1x256 :=
  (tail_main_v88 (exitV m c)).trans (by rw [exit_main_v32])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v72) = qT (yM m c) (aM m c)
      ∧ r.2.mem ((c.tc : Thread nD τ).loc main_v86) = kT (yM m c) (aM m c)
      ∧ r.2.mem ((c.tc : Thread nD τ).loc main_v87) = vvT (yM m c)
      ∧ r.2.mem ((c.tc : Thread nD τ).loc main_v38_0) = reg_main_v38_0 m c
      ∧ r.2.mem ((c.tc : Thread nD τ).loc main_v88) = shapeCast _ (sM m c) shapeCasts_S256x1_S1x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v72 (Pipeline.mem_restRefs_of main_v72 (by decide) (by decide))).trans (fin_main_v72 m c),
      ((h c).2 main_v86 (Pipeline.mem_restRefs_of main_v86 (by decide) (by decide))).trans (fin_main_v86 m c),
      ((h c).2 main_v87 (Pipeline.mem_restRefs_of main_v87 (by decide) (by decide))).trans (fin_main_v87 m c),
      ((h c).1 3).trans (show _ = reg_main_v38_0 m c from rfl),
      ((h c).2 main_v88 (Pipeline.mem_restRefs_of main_v88 (by decide) (by decide))).trans (fin_main_v88 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c))),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c)⟩) (Gen.run_main m ρ)

end Cert.ReferenceIdeal.Value

end
-- ==== Proof.Ref.Region.lean ====
module

public import proofs.«01_k».proof.Proof.Ref.Run
public import Idealize.ShloMosaic.Lib.Pipeline.ValueKit

@[expose] public section

noncomputable section

namespace Cert.ReferenceIdeal.Value

open Cert.ReferenceIdeal Cert.ReferenceIdeal.Gen Idealize.ShloMosaic Idealize.ShloMosaic.TcCoe Idealize.SL.Sem

variable {F : FTy → Type} [FloatOps F]

variable (m : (ℓ : Loc nD τ sig) → Buf (Elt F) ℓ)

/-- Each input window's block is the one at the origin. -/
theorem idx_in (t : Fin cfg0.N) : win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0]) t

/-- The region's first window is the whole array of activations. -/
theorem iblk_h (c : Dev nD) (t : Fin cfg0.N) : iblk m c 0 t = hM m c := by
  funext y
  rw [← V0_h m c]
  blk_ext [iblk, V, idx_in t]

/-- The region's second window is the whole array of inverse scales. -/
theorem iblk_inv (c : Dev nD) (t : Fin cfg0.N) : iblk m c 1 t = invT (sM m c) := by
  funext y
  rw [← V0_inv m c]
  blk_ext [iblk, V, idx_in t]

/-- The region's third window is the whole weight. -/
theorem iblk_w (c : Dev nD) (t : Fin cfg0.N) : iblk m c 2 t = m ((c.tc : Thread nD τ).loc main_arg2) := by
  funext y
  rw [← V_main_arg2 m c]
  blk_ext [iblk, V, idx_in t]

/-- The codes that the region leaves: the activations times the inverse scales, clipped. -/
theorem reg_codes (c : Dev nD) : reg_main_v38_0 m c = k0_pay1 (hM m c) (invT (sM m c)) := by
  unfold reg_main_v38_0
  refine (dats m 0 c).arrAt_eq_of_after_last 3 t0_0 (by decide +kernel) _ fun j => ?_
  blk_simp
  rw [after0_3]
  frame_out
  rw [iblk_h, iblk_inv]

/-- The product that the region leaves: of the codes and the weight. -/
theorem reg_acc (c : Dev nD) : reg_main_v38_1 m c = k0_pay2 (hM m c) (invT (sM m c)) (m ((c.tc : Thread nD τ).loc main_arg2)) := by
  unfold reg_main_v38_1
  refine (dats m 0 c).arrAt_eq_of_after_last 4 t0_0 (by decide +kernel) _ fun j => ?_
  blk_simp
  rw [after0_4]
  frame_out
  rw [iblk_h, iblk_inv, iblk_w]

end Cert.ReferenceIdeal.Value

end
-- ==== Proof.Value.RefRows.lean ====
module

public import proofs.«01_k».proof.Proof.Ref.Region
public import proofs.«01_k».proof.Proof.Value.Rows
public import Idealize.ShloMosaic.Lib.Pipeline.ValueKit

/-!
The reference's arrays, entry by entry, as the formulas of `Rows`.
-/

@[expose] public section

noncomputable section

namespace Cert.ReferenceIdeal.Value

open Cert Cert.ReferenceIdeal Cert.ReferenceIdeal.Gen Idealize.ShloMosaic Idealize.ShloMosaic.Tactic

/-- The powers of two are the floats with exponent fields 1 to 254. -/
theorem powersT_apply (i : Fin 254) : powersT (F := Ideal) (ix1 i) = Scale.P (i.val + 1) := by
  have h : ∀ i : Fin 254, lit0 (S254.rowMajor (ix1 i)) = BitVec.ofNat 32 (i.val + 1) <<< 23 := by decide +kernel
  unfold powersT Scale.P
  rw [h i]
  rfl

/-- The normalised activations, entry by entry. -/
theorem hT_apply (x : Vec Ideal S256x1x4096 .bf16) (g : Vec Ideal S4096 .f32) (r : Fin 256) (i : Fin 4096) :
    hT x g (ix2 r i) = Rows.norm (fun k => x (ix3 r 0 k)) (fun k => g (ix1 k)) i := by
  unfold hT Rows.norm
  pointwise

/-- A row's greatest magnitude over 448. -/
theorem vT_apply (h : Vec Ideal S256x4096 .f32) (r : Fin 256) : vT h (ix2 r 0) = Rows.bound (fun k => h (ix2 r k)) := by
  unfold vT Rows.bound Rows.amax
  pointwise
  rfl

/-- A row's scale. -/
theorem scaleT_apply (v : Vec Ideal S256x1 .f32) (r : Fin 256) : scaleT v (ix2 r 0) = Scale.rScale (v (ix2 r 0)) := by
  unfold scaleT
  pointwise
  simp only [powersT_apply, Scale.P_one, Scale.P_inf]
  unfold Scale.rScale Scalar.select
  congr 1
  by_cases h1 : Scale.P 1 ≤ v (ix2 r 0) <;> by_cases h2 : v (ix2 r 0) < ⊤ <;> simp [h1, h2, IntOp.andi]

/-- A row's inverse scale. -/
theorem invT_apply (v : Vec Ideal S256x1 .f32) (r : Fin 256) : invT v (ix2 r 0) = Scale.rInv (v (ix2 r 0)) := by
  unfold invT
  pointwise
  rfl

/-- The product scaled back. -/
theorem yT_apply (acc : Vec Ideal S256x6144 .f32) (s : Vec Ideal S256x1 .f32) (ws : Vec Ideal S6144 .f32) (r : Fin 256) (i : Fin 6144) :
    yT acc s ws (ix2 r i) = acc (ix2 r i) * s (ix2 r 0) * ws (ix1 i) := by
  unfold yT
  pointwise

/-- A position times a frequency. -/
theorem anglesT_apply (pos : Vec Ideal S256x1 .i32) (f : Vec Ideal S64 .f32) (r : Fin 256) (i : Fin 64) :
    anglesT pos f (ix2 r i) = FloatOps.sitofp (F := Ideal) .f32 (pos (ix2 r 0)) * f (ix1 i) := by
  unfold anglesT
  pointwise

/-- A code: the activation times the inverse scale, clipped. -/
theorem k0_pay1_apply (h : Vec Ideal S256x4096 .f32) (s : Vec Ideal S256x1 .f32) (r : Fin 256) (i : Fin 4096) :
    k0_pay1 h s (ix2 r i) = min (Ideal.ofBits .f32 1138753536#32) (max (Ideal.ofBits .f32 3286237184#32) (h (ix2 r i) * s (ix2 r 0))) := by
  unfold k0_pay1
  pointwise

/-- The product of the codes and the weight. -/
theorem k0_pay2_apply (h : Vec Ideal S256x4096 .f32) (s : Vec Ideal S256x1 .f32) (w : Vec Ideal S4096x6144 .fp8e4m3) (r : Fin 256) (i : Fin 6144) :
    k0_pay2 h s w (ix2 r i) = ∑ k : Fin 4096, k0_pay1 h s (ix2 r k) * w (ix2 k i) := by
  unfold k0_pay2
  pointwise

end Cert.ReferenceIdeal.Value
-- ==== Proof.Value.RefHeads.lean ====
module

public import proofs.«01_k».proof.Proof.Ref.Run
public import proofs.«01_k».proof.Proof.Value.Heads
public import Idealize.ShloMosaic.Lib.Pipeline.ValueKit

/-!
The reference's heads, entry by entry, over any product `y` and any angles `a` whose entries are those of `Heads`.
-/

@[expose] public section

noncomputable section

namespace Cert.ReferenceIdeal.Value

open Cert Cert.ReferenceIdeal Cert.ReferenceIdeal.Gen Idealize.ShloMosaic Idealize.ShloMosaic.Tactic

variable (x : Fin 256 → Fin 4096 → EReal) (g : Fin 4096 → EReal) (w : Fin 4096 → Fin 6144 → EReal) (ws : Fin 6144 → EReal)
variable (p : Fin 256 → EReal) (f : Fin 64 → EReal)

/-- The two halves of a head, as the reference writes them, are the head with the rotary embedding. -/
theorem halves (Y : Fin 6144 → EReal) (A : Fin 64 → EReal) (r : Fin 256) (H : Fin 48) (d : Fin 128) (hy : ∀ n, Y n = Heads.proj x g w ws r n)
    (ha : ∀ i, A i = p r * f i) (o : ℕ) (ho : o = 128 * H.val) :
    (if h : d.val < 64 then Y ⟨o + d.val, by omega⟩ * Ideal.cos (A ⟨d.val, h⟩) - Y ⟨o + (64 + d.val), by omega⟩ * Ideal.sin (A ⟨d.val, h⟩)
      else Y ⟨o + (64 + (d.val - 64)), by omega⟩ * Ideal.cos (A ⟨d.val - 64, by omega⟩) + Y ⟨o + (d.val - 64), by omega⟩ * Ideal.sin (A ⟨d.val - 64, by omega⟩))
    = Heads.rope x g w ws p f r H d := by
  subst ho
  by_cases h : d.val < 64
  · rw [dif_pos h, Heads.rope_lo x g w ws p f r H d h]
    simp only [hy, ha]
  · rw [dif_neg h, Heads.rope_hi x g w ws p f r H d h]
    simp only [hy, ha]

variable (y : Vec Ideal S256x6144 .f32) (a : Vec Ideal S256x64 .f32)

/-- The reference's queries are heads 0 to 31. -/
theorem qT_apply (hy : ∀ r n, y (ix2 r n) = Heads.proj x g w ws r n) (ha : ∀ r i, a (ix2 r i) = p r * f i) (r : Fin 256) (i : Fin 32) (d : Fin 128) :
    qT y a (ix3 r i d) = Heads.rope x g w ws p f r ⟨i.val, by omega⟩ d := by
  rw [← halves x g w ws p f (fun n => y (ix2 r n)) (fun k => a (ix2 r k)) r ⟨i.val, by omega⟩ d (hy r) (ha r) (i.val * 128) (Nat.mul_comm _ _)]
  unfold qT
  pointwise

/-- The reference's keys are heads 32 to 39. -/
theorem kT_apply (hy : ∀ r n, y (ix2 r n) = Heads.proj x g w ws r n) (ha : ∀ r i, a (ix2 r i) = p r * f i) (r : Fin 256) (i : Fin 8) (d : Fin 128) :
    kT y a (ix3 r i d) = Heads.rope x g w ws p f r ⟨32 + i.val, by omega⟩ d := by
  rw [← halves x g w ws p f (fun n => y (ix2 r n)) (fun k => a (ix2 r k)) r ⟨32 + i.val, by omega⟩ d (hy r) (ha r) (4096 + i.val * 128) (by simp only; omega)]
  unfold kT
  pointwise
  simp only [Nat.add_assoc]

/-- The reference's values are heads 40 to 47, without the embedding. -/
theorem vvT_apply (hy : ∀ r n, y (ix2 r n) = Heads.proj x g w ws r n) (r : Fin 256) (i : Fin 8) (d : Fin 128) :
    vvT y (ix3 r i d) = Heads.proj x g w ws r (Heads.col ⟨40 + i.val, by omega⟩ d) := by
  rw [← hy]
  unfold vvT Heads.col
  pointwise
  congr 3
  omega

end Cert.ReferenceIdeal.Value
-- ==== Proof.Value.RefResults.lean ====
module

public import proofs.«01_k».proof.Proof.Value.RefRows
public import proofs.«01_k».proof.Proof.Value.RefHeads

/-!
The reference's scales, codes, product and angles as the formulas of `Rows` and `Heads`, over any arguments.
-/

@[expose] public section

noncomputable section

namespace Cert.ReferenceIdeal.Value

open Cert Cert.ReferenceIdeal Cert.ReferenceIdeal.Gen Idealize.ShloMosaic Idealize.ShloMosaic.Tactic

variable (x : Vec Ideal S256x1x4096 .bf16) (g : Vec Ideal S4096 .f32) (w : Vec Ideal S4096x6144 .fp8e4m3) (ws : Vec Ideal S6144 .f32)

/-- The reference's scale of row `r`. -/
theorem scale_apply (r : Fin 256) :
    scaleT (vT (hT x g)) (ix2 r 0) = Rows.scale (fun k => x (ix3 r 0 k)) (fun k => g (ix1 k)) := by
  rw [scaleT_apply, vT_apply]
  unfold Rows.scale
  simp only [hT_apply]

/-- The reference's code at row `r` and lane `i`. -/
theorem code_apply (r : Fin 256) (i : Fin 4096) :
    k0_pay1 (hT x g) (invT (scaleT (vT (hT x g)))) (ix2 r i) = Rows.code (fun k => x (ix3 r 0 k)) (fun k => g (ix1 k)) i := by
  rw [k0_pay1_apply, invT_apply, scale_apply, hT_apply]
  rfl

/-- The reference's scaled product at row `r` and column `n`. -/
theorem proj_apply (r : Fin 256) (n : Fin 6144) :
    yT (k0_pay2 (hT x g) (invT (scaleT (vT (hT x g)))) w) (scaleT (vT (hT x g))) ws (ix2 r n)
      = Heads.proj (fun r k => x (ix3 r 0 k)) (fun k => g (ix1 k)) (fun k n => w (ix2 k n)) (fun n => ws (ix1 n)) r n := by
  rw [yT_apply, k0_pay2_apply, scale_apply]
  simp only [code_apply]
  rfl

end Cert.ReferenceIdeal.Value
-- ==== Proof.Value.Tie.lean ====
module

public import proofs.«01_k».proof.Defs
public import proofs.«01_k».proof.Proof.Value.KernelRun
public import proofs.«01_k».proof.Proof.Value.RefResults

/-!
The reference's five results are the kernel's, from memories that agree on the arguments: the value claim.
-/

@[expose] public section

set_option maxRecDepth 16384

noncomputable section

namespace Cert.Tie

open Cert Idealize.ShloMosaic Idealize.ShloMosaic.Tactic
open Cert.ReferenceIdeal.Value

/-- Both programs carry the same 64 frequencies. -/
theorem freq_eq (i : Fin 64) : freqT (F := Ideal) (ix1 i) = KernelIdeal.Hand.freqK i := by
  have h : ∀ i : Fin 64, ReferenceIdeal.lit1 (ReferenceIdeal.S64.rowMajor (ix1 i)) = KernelIdeal.lit0 i := by decide +kernel
  unfold freqT KernelIdeal.Hand.freqK
  exact congrArg _ (h i)

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

/-- The two memories agree on core `c`'s five arguments. -/
def Agree : Prop :=
  m' ((c.tc : Thread ReferenceIdeal.nD ReferenceIdeal.τ).loc ReferenceIdeal.main_arg0) = KernelIdeal.Hand.argX m c
  ∧ m' ((c.tc : Thread ReferenceIdeal.nD ReferenceIdeal.τ).loc ReferenceIdeal.main_arg1) = KernelIdeal.Hand.argG m c
  ∧ m' ((c.tc : Thread ReferenceIdeal.nD ReferenceIdeal.τ).loc ReferenceIdeal.main_arg2) = KernelIdeal.Hand.argW m c
  ∧ m' ((c.tc : Thread ReferenceIdeal.nD ReferenceIdeal.τ).loc ReferenceIdeal.main_arg3) = KernelIdeal.Hand.argS m c
  ∧ m' ((c.tc : Thread ReferenceIdeal.nD ReferenceIdeal.τ).loc ReferenceIdeal.main_arg4) = KernelIdeal.Hand.argP m c

variable {m m' c}

/-- The reference's scaled product, entry by entry, from the kernel's arguments. -/
theorem y_eq (h : Agree m m' c) (r : Fin 256) (n : Fin 6144) :
    yM m' c (ix2 r n) = Heads.proj (KernelIdeal.Hand.fX m c) (KernelIdeal.Hand.fG m c) (KernelIdeal.Hand.fW m c) (KernelIdeal.Hand.fS m c) r n := by
  obtain ⟨h0, h1, h2, h3, -⟩ := h
  unfold yM
  rw [reg_acc]
  unfold sM hM
  rw [h0, h1, h2, h3]
  have e := proj_apply (KernelIdeal.Hand.argX m c) (KernelIdeal.Hand.argG m c) (KernelIdeal.Hand.argW m c) (KernelIdeal.Hand.argS m c) r n
  rw [e]
  rfl

/-- The reference's angles, from the kernel's arguments. -/
theorem a_eq (h : Agree m m' c) (r : Fin 256) (i : Fin 64) : aM m' c (ix2 r i) = KernelIdeal.Hand.fP m c r * KernelIdeal.Hand.freqK i := by
  obtain ⟨-, -, -, -, h4⟩ := h
  unfold aM
  rw [h4, anglesT_apply, freq_eq]
  rfl

/-- The queries agree. -/
theorem q_eq (h : Agree m m' c) : qT (yM m' c) (aM m' c) = KernelIdeal.Hand.qA m c := by
  funext j
  obtain ⟨r, i, d, rfl⟩ : ∃ r i d, j = ix3 r i d := ⟨j 0, j 1, j 2, by funext a; fin_cases a <;> rfl⟩
  exact qT_apply _ _ _ _ _ _ _ _ (y_eq h) (a_eq h) r i d

/-- The keys agree. -/
theorem k_eq (h : Agree m m' c) : kT (yM m' c) (aM m' c) = KernelIdeal.Hand.ropeA m c 4 (by norm_num) := by
  funext j
  obtain ⟨r, i, d, rfl⟩ : ∃ r i d, j = ix3 r i d := ⟨j 0, j 1, j 2, by funext a; fin_cases a <;> rfl⟩
  exact kT_apply _ _ _ _ _ _ _ _ (y_eq h) (a_eq h) r i d

/-- The values agree. -/
theorem v_eq (h : Agree m m' c) : vvT (yM m' c) = KernelIdeal.Hand.plainA m c 5 (by norm_num) := by
  funext j
  obtain ⟨r, i, d, rfl⟩ : ∃ r i d, j = ix3 r i d := ⟨j 0, j 1, j 2, by funext a; fin_cases a <;> rfl⟩
  exact vvT_apply _ _ _ _ _ (y_eq h) r i d

/-- The codes agree. -/
theorem codes_eq (h : Agree m m' c) : reg_main_v38_0 m' c = KernelIdeal.Hand.codesA m c := by
  obtain ⟨h0, h1, -⟩ := h
  rw [reg_codes]
  unfold sM hM
  rw [h0, h1]
  funext j
  obtain ⟨r, i, rfl⟩ : ∃ r i, j = ix2 r i := ⟨j 0, j 1, by funext a; fin_cases a <;> rfl⟩
  exact code_apply _ _ r i

/-- The rows of scales agree. -/
theorem row_eq (h : Agree m m' c) : shapeCast _ (sM m' c) ReferenceIdeal.Gen.facts.shapeCasts_S256x1_S1x256 = KernelIdeal.Hand.rowA m c := by
  obtain ⟨h0, h1, -⟩ := h
  unfold sM hM
  rw [h0, h1]
  funext j
  obtain ⟨a, r, rfl⟩ : ∃ a r, j = ix2 a r := ⟨j 0, j 1, by funext a; fin_cases a <;> rfl⟩
  refine Eq.trans ?_ (scale_apply _ _ r)
  generalize scaleT (F := Ideal) _ = s
  pointwise

/-- The value claim. -/
theorem algebraic : algebraic_KernelIdeal_ReferenceIdeal (hKernelIdeal := KernelIdeal.Gen.facts) (hReferenceIdeal := ReferenceIdeal.Gen.facts) :=
  fun m g m' g' _ hag => ⟨KernelIdeal.Hand.qA m, fun c => KernelIdeal.Hand.ropeA m c 4 (by norm_num), fun c => KernelIdeal.Hand.plainA m c 5 (by norm_num),
    KernelIdeal.Hand.codesA m, KernelIdeal.Hand.rowA m, KernelIdeal.Hand.run_results m g,
    (θ_run _ _ _).mono (fun _ h c =>
      have hc : Agree m m' c := hag c
      ⟨(h c).1.trans (q_eq hc), (h c).2.1.trans (k_eq hc), (h c).2.2.1.trans (v_eq hc), (h c).2.2.2.1.trans (codes_eq hc),
        (h c).2.2.2.2.1.trans (row_eq hc), (h c).2.2.2.2.2⟩) (run m' g')⟩

end Cert.Tie
-- ==== Proof.lean ====
module

public import proofs.«01_k».proof.Defs
public import proofs.«01_k».proof.Proof.KernelFrame.Frame
public import proofs.«01_k».proof.Proof.KernelValue.Frame
public import proofs.«01_k».proof.Proof.Gen.ReferenceIdeal.Frame
public import proofs.«01_k».proof.Proof.Value.Tie
public import Idealize.ShloMosaic.Lib.Bf16Pair

@[expose] public section

open Idealize.ShloMosaic

/-- The five claims: the three programs run and keep their arguments, the ideal program is the kernel over the extended
    reals, and its five results are the reference's. -/
theorem Cert.Proof.claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ,
    ⟨IdealRules.bf16_pair.packStatement .., IdealRules.bf16_pair.statement ..⟩,
    Cert.Tie.algebraic⟩
